-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)) (v5 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_v12) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_v65) = v4 c
          ∧ r.2.mem ((c.tc : Thread Cert.ReferenceIdeal.nD Cert.ReferenceIdeal.τ).loc Cert.ReferenceIdeal.main_v68) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S32x32x1024 : Shape := ⟨3, ![32, 32, 1024]⟩
abbrev S32x32 : Shape := ⟨2, ![32, 32]⟩
abbrev S32x64x1024 : Shape := ⟨3, ![32, 64, 1024]⟩
abbrev S32x64 : Shape := ⟨2, ![32, 64]⟩
abbrev S32x2048x1024 : Shape := ⟨3, ![32, 2048, 1024]⟩
abbrev S32x2048 : Shape := ⟨2, ![32, 2048]⟩
abbrev S32x2048x4 : Shape := ⟨3, ![32, 2048, 4]⟩
abbrev S1024x1024 : Shape := ⟨2, ![1024, 1024]⟩
abbrev S1024 : Shape := ⟨1, ![1024]⟩
abbrev S_ : Shape := ⟨0, ![]⟩

class Facts : Prop where
  bcast_S_S32x32x1024 : S_.BroadcastsInDim S32x32x1024 (![] : Fin 0 → Fin S32x32x1024.rank)
  bcast_S_S32x32 : S_.BroadcastsInDim S32x32 (![] : Fin 0 → Fin S32x32.rank)
  bcast_S_S32x64x1024 : S_.BroadcastsInDim S32x64x1024 (![] : Fin 0 → Fin S32x64x1024.rank)
  bcast_S_S32x2048x1024 : S_.BroadcastsInDim S32x2048x1024 (![] : Fin 0 → Fin S32x2048x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_arg1 : FVec F S32x32 .f32) (main_arg10 : FVec F S1024 .f32) (main_arg11 : FVec F S_ .f32) (main_arg12 : FVec F S1024x1024 .f32) (main_arg13 : FVec F S1024x1024 .f32) (main_v2 : IVec S32x32x1024 1) (main_v5 : IVec S32x32 1) (main_v8 : IVec S32x64x1024 1) (main_v11 : IVec S32x2048x1024 1) (main_v14 : IVec S1024x1024 1) (main_v17 : IVec S1024 1) : IVec S32x32x1024 1 × IVec S32x32 1 × IVec S32x64x1024 1 × IVec S32x2048x1024 1 × IVec S1024x1024 1 × IVec S1024 1 × IVec S1024 1 × IVec S_ 1 × IVec S1024x1024 1 × IVec S1024x1024 1 × IVec S32x32 1 :=
  let main_v18 : FVec F S1024 .f32 := Host.absf main_arg10
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S_ .f32 := Host.absf main_arg11
  let main_cst_6 : FVec F S_ .f32 := constant S_ .f32 0x7F800000#32
  let main_v22 : IVec S_ 1 := cmpf .olt main_v21 main_cst_6
  let main_v23 : FVec F S1024x1024 .f32 := Host.absf main_arg12
  let main_cst_7 : FVec F S_ .f32 := constant S_ .f32 0x7F800000#32
  let main_v24 : FVec F S1024x1024 .f32 := broadcastInDim S1024x1024 ![] bcast_S_S1024x1024 main_cst_7
  let main_v25 : IVec S1024x1024 1 := cmpf .olt main_v23 main_v24
  let main_v26 : FVec F S1024x1024 .f32 := Host.absf main_arg13
  let main_cst_8 : FVec F S_ .f32 := constant S_ .f32 0x7F800000#32
  let main_v27 : FVec F S1024x1024 .f32 := broadcastInDim S1024x1024 ![] bcast_S_S1024x1024 main_cst_8
  let main_v28 : IVec S1024x1024 1 := cmpf .olt main_v26 main_v27
  let main_cst_9 : FVec F S_ .f32 := constant S_ .f32 0x00000000#32
  let main_v29 : FVec F S32x32 .f32 := broadcastInDim S32x32 ![] bcast_S_S32x32 main_cst_9
  let main_v30 : IVec S32x32 1 := cmpf .oge main_arg1 main_v29
  (main_v2, main_v5, main_v8, main_v11, main_v14, main_v17, main_v20, main_v22, main_v25, main_v28, main_v30)

def fn {F : FTy → Type} [FloatOps F] (main_arg0 : FVec F S32x32x1024 .f32) (main_arg1 : FVec F S32x32 .f32) (main_arg2 : FVec F S32x64x1024 .f32) (main_arg3 : FVec F S32x64 .f32) (main_arg4 : FVec F S32x2048x1024 .f32) (main_arg5 : FVec F S32x2048 .f32) (main_arg6 : FVec F S32x2048x4 .f32) (main_arg7 : IVec S32x2048 32) (main_arg8 : FVec F S1024x1024 .f32) (main_arg9 : FVec F S1024 .f32) (main_arg10 : FVec F S1024 .f32) (main_arg11 : FVec F S_ .f32) (main_arg12 : FVec F S1024x1024 .f32) (main_arg13 : FVec F S1024x1024 .f32) : IVec S32x32x1024 1 × IVec S32x32 1 × IVec S32x64x1024 1 × IVec S32x2048x1024 1 × IVec S1024x1024 1 × IVec S1024 1 × IVec S1024 1 × IVec S_ 1 × IVec S1024x1024 1 × IVec S1024x1024 1 × IVec S32x32 1 :=
  let main_v0 : FVec F S32x32x1024 .f32 := Host.absf main_arg0
  let main_cst : FVec F S_ .f32 := constant S_ .f32 0x7F800000#32
  let main_v1 : FVec F S32x32x1024 .f32 := broadcastInDim S32x32x1024 ![] bcast_S_S32x32x1024 main_cst
  let main_v2 : IVec S32x32x1024 1 := cmpf .olt main_v0 main_v1
  let main_v3 : FVec F S32x32 .f32 := Host.absf main_arg1
  let main_cst_0 : FVec F S_ .f32 := constant S_ .f32 0x7F800000#32
  let main_v4 : FVec F S32x32 .f32 := broadcastInDim S32x32 ![] bcast_S_S32x32 main_cst_0
  let main_v5 : IVec S32x32 1 := cmpf .olt main_v3 main_v4
  let main_v6 : FVec F S32x64x1024 .f32 := Host.absf main_arg2
  let main_cst_1 : FVec F S_ .f32 := constant S_ .f32 0x7F800000#32
  let main_v7 : FVec F S32x64x1024 .f32 := broadcastInDim S32x64x1024 ![] bcast_S_S32x64x1024 main_cst_1
  let main_v8 : IVec S32x64x1024 1 := cmpf .olt main_v6 main_v7
  let main_v9 : FVec F S32x2048x1024 .f32 := Host.absf main_arg4
  let main_cst_2 : FVec F S_ .f32 := constant S_ .f32 0x7F800000#32
  let main_v10 : FVec F S32x2048x1024 .f32 := broadcastInDim S32x2048x1024 ![] bcast_S_S32x2048x1024 main_cst_2
  let main_v11 : IVec S32x2048x1024 1 := cmpf .olt main_v9 main_v10
  let main_v12 : FVec F S1024x1024 .f32 := Host.absf main_arg8
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024 .f32 := Host.absf main_arg9
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg1 main_arg10 main_arg11 main_arg12 main_arg13 main_v2 main_v5 main_v8 main_v11 main_v14 main_v17
-- ==== Kernel.lean ====
abbrev S32x32x1024 : Shape := ⟨3, ![32, 32, 1024]⟩
abbrev S32x32 : Shape := ⟨2, ![32, 32]⟩
abbrev S32x64x1024 : Shape := ⟨3, ![32, 64, 1024]⟩
abbrev S32x64 : Shape := ⟨2, ![32, 64]⟩
abbrev S32x2048x1024 : Shape := ⟨3, ![32, 2048, 1024]⟩
abbrev S32x2048 : Shape := ⟨2, ![32, 2048]⟩
abbrev S32x2048x4 : Shape := ⟨3, ![32, 2048, 4]⟩
abbrev S1024x1024 : Shape := ⟨2, ![1024, 1024]⟩
abbrev S1024 : Shape := ⟨1, ![1024]⟩
abbrev S_ : Shape := ⟨0, ![]⟩
abbrev S32x32x1 : Shape := ⟨3, ![32, 32, 1]⟩
abbrev S32x1x64 : Shape := ⟨3, ![32, 1, 64]⟩
abbrev S32x1x2048 : Shape := ⟨3, ![32, 1, 2048]⟩
abbrev S1x1024 : Shape := ⟨2, ![1, 1024]⟩
abbrev S1024x1 : Shape := ⟨2, ![1024, 1]⟩
abbrev S1x1 : Shape := ⟨2, ![1, 1]⟩
abbrev S32x1x8 : Shape := ⟨3, ![32, 1, 8]⟩
abbrev S32x32x4 : Shape := ⟨3, ![32, 32, 4]⟩
abbrev S1x32x1024 : Shape := ⟨3, ![1, 32, 1024]⟩
abbrev S1x32x1 : Shape := ⟨3, ![1, 32, 1]⟩
abbrev S1x64x1024 : Shape := ⟨3, ![1, 64, 1024]⟩
abbrev S1x1x64 : Shape := ⟨3, ![1, 1, 64]⟩
abbrev S1x2048x1024 : Shape := ⟨3, ![1, 2048, 1024]⟩
abbrev S1x1x2048 : Shape := ⟨3, ![1, 1, 2048]⟩
abbrev S1x2048x4 : Shape := ⟨3, ![1, 2048, 4]⟩
abbrev S1x1x8 : Shape := ⟨3, ![1, 1, 8]⟩
abbrev S1x32x4 : Shape := ⟨3, ![1, 32, 4]⟩
abbrev S32x1024 : Shape := ⟨2, ![32, 1024]⟩
abbrev S32x1 : Shape := ⟨2, ![32, 1]⟩
abbrev S1 : Shape := ⟨1, ![1]⟩
abbrev S64x1024 : Shape := ⟨2, ![64, 1024]⟩
abbrev S1x64 : Shape := ⟨2, ![1, 64]⟩
abbrev S1x8 : Shape := ⟨2, ![1, 8]⟩
abbrev S1x2048 : Shape := ⟨2, ![1, 2048]⟩
abbrev S8x64 : Shape := ⟨2, ![8, 64]⟩
abbrev S64 : Shape := ⟨1, ![64]⟩
abbrev S2048x1024 : Shape := ⟨2, ![2048, 1024]⟩
abbrev S2048 : Shape := ⟨1, ![2048]⟩
abbrev S2048x4 : Shape := ⟨2, ![2048, 4]⟩
abbrev S32x4 : Shape := ⟨2, ![32, 4]⟩
abbrev S32x8 : Shape := ⟨2, ![32, 8]⟩

abbrev nBuf : Space → Nat
  | .hbm => 32
  | .vmem => 34
  | .smem => 0
  | _ => 0

abbrev bufTy : (tb : Table) → Fin (tcTables nBuf tb) → BufTy
  | .hbm, ⟨0, _⟩ => ⟨S32x32x1024, .f32⟩
  | .hbm, ⟨1, _⟩ => ⟨S32x32, .f32⟩
  | .hbm, ⟨2, _⟩ => ⟨S32x64x1024, .f32⟩
  | .hbm, ⟨3, _⟩ => ⟨S32x64, .f32⟩
  | .hbm, ⟨4, _⟩ => ⟨S32x2048x1024, .f32⟩
  | .hbm, ⟨5, _⟩ => ⟨S32x2048, .f32⟩
  | .hbm, ⟨6, _⟩ => ⟨S32x2048x4, .f32⟩
  | .hbm, ⟨7, _⟩ => ⟨S32x2048, .i32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S32x32x1, .f32⟩
  | .hbm, ⟨15, _⟩ => ⟨S32x1x64, .f32⟩
  | .hbm, ⟨16, _⟩ => ⟨S32x1x2048, .f32⟩
  | .hbm, ⟨17, _⟩ => ⟨S32x1x2048, .i32⟩
  | .hbm, ⟨18, _⟩ => ⟨S1x1024, .f32⟩
  | .hbm, ⟨19, _⟩ => ⟨S1024x1, .f32⟩
  | .hbm, ⟨20, _⟩ => ⟨S1x1, .f32⟩
  | .hbm, ⟨21, _⟩ => ⟨S32x1x8, .i32⟩
  | .hbm, ⟨22, _⟩ => ⟨S32x32x4, .f32⟩
  | .hbm, ⟨23, _⟩ => ⟨S32x1x64, .f32⟩
  | .hbm, ⟨24, _⟩ => ⟨S32x1x64, .f32⟩
  | .hbm, ⟨25, _⟩ => ⟨S32x1x2048, .f32⟩
  | .hbm, ⟨26, _⟩ => ⟨S32x1x2048, .f32⟩
  | .hbm, ⟨27, _⟩ => ⟨S32x8, .i32⟩
  | .hbm, ⟨28, _⟩ => ⟨S32x64, .f32⟩
  | .hbm, ⟨29, _⟩ => ⟨S32x64, .f32⟩
  | .hbm, ⟨30, _⟩ => ⟨S32x2048, .f32⟩
  | .hbm, ⟨31, _⟩ => ⟨S32x2048, .f32⟩
  | .local _ .vmem, ⟨0, _⟩ => ⟨S1x32x1024, .f32⟩
  | .local _ .vmem, ⟨1, _⟩ => ⟨S1x32x1024, .f32⟩
  | .local _ .vmem, ⟨2, _⟩ => ⟨S1x32x1, .f32⟩
  | .local _ .vmem, ⟨3, _⟩ => ⟨S1x32x1, .f32⟩
  | .local _ .vmem, ⟨4, _⟩ => ⟨S1x64x1024, .f32⟩
  | .local _ .vmem, ⟨5, _⟩ => ⟨S1x64x1024, .f32⟩
  | .local _ .vmem, ⟨6, _⟩ => ⟨S1x1x64, .f32⟩
  | .local _ .vmem, ⟨7, _⟩ => ⟨S1x1x64, .f32⟩
  | .local _ .vmem, ⟨8, _⟩ => ⟨S1x2048x1024, .f32⟩
  | .local _ .vmem, ⟨9, _⟩ => ⟨S1x2048x1024, .f32⟩
  | .local _ .vmem, ⟨10, _⟩ => ⟨S1x1x2048, .f32⟩
  | .local _ .vmem, ⟨11, _⟩ => ⟨S1x1x2048, .f32⟩
  | .local _ .vmem, ⟨12, _⟩ => ⟨S1x2048x4, .f32⟩
  | .local _ .vmem, ⟨13, _⟩ => ⟨S1x2048x4, .f32⟩
  | .local _ .vmem, ⟨14, _⟩ => ⟨S1x1x2048, .i32⟩
  | .local _ .vmem, ⟨15, _⟩ => ⟨S1x1x2048, .i32⟩
  | .local _ .vmem, ⟨16, _⟩ => ⟨S1024x1024, .f32⟩
  | .local _ .vmem, ⟨17, _⟩ => ⟨S1x1024, .f32⟩
  | .local _ .vmem, ⟨18, _⟩ => ⟨S1024x1, .f32⟩
  | .local _ .vmem, ⟨19, _⟩ => ⟨S1x1, .f32⟩
  | .local _ .vmem, ⟨20, _⟩ => ⟨S1024x1024, .f32⟩
  | .local _ .vmem, ⟨21, _⟩ => ⟨S1024x1024, .f32⟩
  | .local _ .vmem, ⟨22, _⟩ => ⟨S1x1x8, .i32⟩
  | .local _ .vmem, ⟨23, _⟩ => ⟨S1x1x8, .i32⟩
  | .local _ .vmem, ⟨24, _⟩ => ⟨S1x32x4, .f32⟩
  | .local _ .vmem, ⟨25, _⟩ => ⟨S1x32x4, .f32⟩
  | .local _ .vmem, ⟨26, _⟩ => ⟨S1x1x64, .f32⟩
  | .local _ .vmem, ⟨27, _⟩ => ⟨S1x1x64, .f32⟩
  | .local _ .vmem, ⟨28, _⟩ => ⟨S1x1x64, .f32⟩
  | .local _ .vmem, ⟨29, _⟩ => ⟨S1x1x64, .f32⟩
  | .local _ .vmem, ⟨30, _⟩ => ⟨S1x1x2048, .f32⟩
  | .local _ .vmem, ⟨31, _⟩ => ⟨S1x1x2048, .f32⟩
  | .local _ .vmem, ⟨32, _⟩ => ⟨S1x1x2048, .f32⟩
  | .local _ .vmem, ⟨33, _⟩ => ⟨S1x1x2048, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v7_2 : Ref sig .tc := ⟨.hbm, 23, rfl⟩
abbrev main_v7_3 : Ref sig .tc := ⟨.hbm, 24, rfl⟩
abbrev main_v7_4 : Ref sig .tc := ⟨.hbm, 25, rfl⟩
abbrev main_v7_5 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x8 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x32x4 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S32x32x1024 : Shape := ⟨3, ![32, 32, 1024]⟩
abbrev S32x32 : Shape := ⟨2, ![32, 32]⟩
abbrev S32x64x1024 : Shape := ⟨3, ![32, 64, 1024]⟩
abbrev S32x64 : Shape := ⟨2, ![32, 64]⟩
abbrev S32x2048x1024 : Shape := ⟨3, ![32, 2048, 1024]⟩
abbrev S32x2048 : Shape := ⟨2, ![32, 2048]⟩
abbrev S32x2048x4 : Shape := ⟨3, ![32, 2048, 4]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩
abbrev S32 : Shape := ⟨1, ![32]⟩
abbrev S32x1 : Shape := ⟨2, ![32, 1]⟩
abbrev S32x1024 : Shape := ⟨2, ![32, 1024]⟩
abbrev S32x8 : Shape := ⟨2, ![32, 8]⟩
abbrev S32x8x1 : Shape := ⟨3, ![32, 8, 1]⟩
abbrev S1x1x64 : Shape := ⟨3, ![1, 1, 64]⟩
abbrev S32x8x64 : Shape := ⟨3, ![32, 8, 64]⟩
abbrev S32x1x2048 : Shape := ⟨3, ![32, 1, 2048]⟩
abbrev S32x8x2048 : Shape := ⟨3, ![32, 8, 2048]⟩
abbrev S32x32x1 : Shape := ⟨3, ![32, 32, 1]⟩
abbrev S1 : Shape := ⟨1, ![1]⟩
abbrev S1x1x1 : Shape := ⟨3, ![1, 1, 1]⟩
abbrev S32x32x4 : Shape := ⟨3, ![32, 32, 4]⟩
abbrev S1x1x2048 : Shape := ⟨3, ![1, 1, 2048]⟩
abbrev S32x32x2048 : Shape := ⟨3, ![32, 32, 2048]⟩

abbrev nBuf : Space → Nat
  | .hbm => 157
  | .vmem => 0
  | .smem => 0
  | _ => 0

abbrev hbmTy0_0 (i : Nat) : BufTy := match i % 128 with
  | 0 => ⟨S32x32x1024, .f32⟩
  | 1 => ⟨S32x32, .f32⟩
  | 2 => ⟨S32x64x1024, .f32⟩
  | 3 => ⟨S32x64, .f32⟩
  | 4 => ⟨S32x2048x1024, .f32⟩
  | 5 => ⟨S32x2048, .f32⟩
  | 6 => ⟨S32x2048x4, .f32⟩
  | 7 => ⟨S32x2048, .i32⟩
  | 8 => ⟨S1024x1024, .f32⟩
  | 9 => ⟨S1024, .f32⟩
  | 10 => ⟨S1024, .f32⟩
  | 11 => ⟨S_, .f32⟩
  | 12 => ⟨S1024x1024, .f32⟩
  | 13 => ⟨S1024x1024, .f32⟩
  | 14 => ⟨S32x32x1024, .f32⟩
  | 15 => ⟨S1x1x1024, .f32⟩
  | 16 => ⟨S32x32x1024, .f32⟩
  | 17 => ⟨S32x32x1024, .f32⟩
  | 18 => ⟨S32x32, .f32⟩
  | 19 => ⟨S32x32, .f32⟩
  | 20 => ⟨S32x32, .f32⟩
  | 21 => ⟨S_, .f32⟩
  | 22 => ⟨S32, .f32⟩
  | 23 => ⟨S_, .f32⟩
  | 24 => ⟨S32, .f32⟩
  | 25 => ⟨S32, .f32⟩
  | 26 => ⟨S32x1, .f32⟩
  | 27 => ⟨S32x32, .f32⟩
  | 28 => ⟨S32x32, .f32⟩
  | 29 => ⟨S32x32, .f32⟩
  | 30 => ⟨S_, .f32⟩
  | 31 => ⟨S32, .f32⟩
  | 32 => ⟨S32x1, .f32⟩
  | 33 => ⟨S32x32, .f32⟩
  | 34 => ⟨S32x32, .f32⟩
  | 35 => ⟨S32x32, .f32⟩
  | 36 => ⟨S_, .f32⟩
  | 37 => ⟨S32, .f32⟩
  | 38 => ⟨S32x1, .f32⟩
  | 39 => ⟨S_, .f32⟩
  | 40 => ⟨S32x1, .f32⟩
  | 41 => ⟨S32x1, .f32⟩
  | 42 => ⟨S32x32, .f32⟩
  | 43 => ⟨S32x32, .f32⟩
  | 44 => ⟨S32x1024, .f32⟩
  | 45 => ⟨S32x1024, .f32⟩
  | 46 => ⟨S32x64, .f32⟩
  | 47 => ⟨S_, .f32⟩
  | 48 => ⟨S32x64, .f32⟩
  | 49 => ⟨S32x64, .f32⟩
  | 50 => ⟨S_, .f32⟩
  | 51 => ⟨S32x64, .f32⟩
  | 52 => ⟨S32x64, .i1⟩
  | 53 => ⟨S_, .f32⟩
  | 54 => ⟨S_, .f32⟩
  | 55 => ⟨S32x64, .f32⟩
  | 56 => ⟨S32x64, .f32⟩
  | 57 => ⟨S32x8, .f32⟩
  | 58 => ⟨S32x8, .i32⟩
  | 59 => ⟨S_, .i32⟩
  | 60 => ⟨S32x8, .i32⟩
  | 61 => ⟨S32x8, .i32⟩
  | 62 => ⟨S32x8x1, .i32⟩
  | 63 => ⟨S1x1x64, .i32⟩
  | 64 => ⟨S32x8x64, .i32⟩
  | 65 => ⟨S32x8x64, .i32⟩
  | 66 => ⟨S32x8x64, .i1⟩
  | 67 => ⟨S32x8x64, .f32⟩
  | 68 => ⟨S_, .f32⟩
  | 69 => ⟨S32x64, .f32⟩
  | 70 => ⟨S_, .f32⟩
  | 71 => ⟨S_, .f32⟩
  | 72 => ⟨S_, .f32⟩
  | 73 => ⟨S32x64, .f32⟩
  | 74 => ⟨S32x64, .f32⟩
  | 75 => ⟨S_, .f32⟩
  | 76 => ⟨S32x64, .f32⟩
  | 77 => ⟨S32x64, .f32⟩
  | 78 => ⟨S_, .f32⟩
  | 79 => ⟨S32x64, .f32⟩
  | 80 => ⟨S32x64, .f32⟩
  | 81 => ⟨S32x64, .f32⟩
  | 82 => ⟨S32x64, .f32⟩
  | 83 => ⟨S_, .i32⟩
  | 84 => ⟨S32x8, .i32⟩
  | 85 => ⟨S32x8, .i1⟩
  | 86 => ⟨S_, .i32⟩
  | 87 => ⟨S_, .i32⟩
  | 88 => ⟨S32x8, .i32⟩
  | 89 => ⟨S32x8, .i32⟩
  | 90 => ⟨S32x1x2048, .i32⟩
  | 91 => ⟨S32x8x1, .i32⟩
  | 92 => ⟨S32x8x2048, .i32⟩
  | 93 => ⟨S32x8x2048, .i32⟩
  | 94 => ⟨S32x8x2048, .i1⟩
  | 95 => ⟨S_, .i1⟩
  | 96 => ⟨S32x2048, .i1⟩
  | 97 => ⟨S32x2048, .f32⟩
  | 98 => ⟨S32x2048, .f32⟩
  | 99 => ⟨S32x1024, .f32⟩
  | 100 => ⟨S32x2048, .f32⟩
  | 101 => ⟨S_, .f32⟩
  | 102 => ⟨S32x2048, .f32⟩
  | 103 => ⟨S32x2048, .f32⟩
  | 104 => ⟨S_, .f32⟩
  | 105 => ⟨S32x2048, .f32⟩
  | 106 => ⟨S32x2048, .i1⟩
  | 107 => ⟨S_, .f32⟩
  | 108 => ⟨S_, .f32⟩
  | 109 => ⟨S32x2048, .f32⟩
  | 110 => ⟨S32x2048, .f32⟩
  | 111 => ⟨S32x32, .f32⟩
  | 112 => ⟨S32x32, .i32⟩
  | 113 => ⟨S32x32x1, .i32⟩
  | 114 => ⟨S_, .i32⟩
  | 115 => ⟨S32x32x1, .i32⟩
  | 116 => ⟨S32x32x1, .i1⟩
  | 117 => ⟨S_, .i32⟩
  | 118 => ⟨S32x32x1, .i32⟩
  | 119 => ⟨S32x32x1, .i32⟩
  | 120 => ⟨S32x32x1, .i32⟩
  | 121 => ⟨S1, .i32⟩
  | 122 => ⟨S_, .i32⟩
  | 123 => ⟨S32x32x1, .i32⟩
  | 124 => ⟨S32x32x1, .i1⟩
  | 125 => ⟨S1x1x1, .i32⟩
  | 126 => ⟨S32x32x1, .i32⟩
  | 127 => ⟨S32x32x1, .i1⟩
  | _ => ⟨S32x32x1024, .f32⟩

abbrev hbmTy0_1 (i : Nat) : BufTy := match i % 128 with
  | 0 => ⟨S32x32x1, .i1⟩
  | 1 => ⟨S_, .i1⟩
  | 2 => ⟨S32x32, .i1⟩
  | 3 => ⟨S32x32x4, .f32⟩
  | 4 => ⟨S32x32x4, .i1⟩
  | 5 => ⟨S_, .f32⟩
  | 6 => ⟨S32x32x4, .f32⟩
  | 7 => ⟨S32x32x4, .f32⟩
  | 8 => ⟨S32x32x1, .i32⟩
  | 9 => ⟨S1x1x2048, .i32⟩
  | 10 => ⟨S32x32x2048, .i32⟩
  | 11 => ⟨S32x32x2048, .i32⟩
  | 12 => ⟨S32x32x2048, .i1⟩
  | 13 => ⟨S32x32x2048, .f32⟩
  | 14 => ⟨S_, .f32⟩
  | 15 => ⟨S32x2048, .f32⟩
  | 16 => ⟨S_, .f32⟩
  | 17 => ⟨S_, .f32⟩
  | 18 => ⟨S_, .f32⟩
  | 19 => ⟨S32x2048, .f32⟩
  | 20 => ⟨S32x2048, .f32⟩
  | 21 => ⟨S_, .f32⟩
  | 22 => ⟨S32x2048, .f32⟩
  | 23 => ⟨S32x2048, .f32⟩
  | 24 => ⟨S32x2048, .f32⟩
  | 25 => ⟨S_, .f32⟩
  | 26 => ⟨S32x2048, .f32⟩
  | 27 => ⟨S32x2048, .f32⟩
  | 28 => ⟨S32x2048, .f32⟩
  | _ => ⟨S32x32x1024, .f32⟩

abbrev hbmTy (i : Nat) : BufTy := match i / 128 with
  | 0 => hbmTy0_0 i
  | 1 => hbmTy0_1 i
  | _ => ⟨S32x32x1024, .f32⟩

abbrev bufTy : (tb : Table) → Fin (tcTables nBuf tb) → BufTy
  | .hbm, ⟨i, _⟩ => hbmTy i
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_call0_v0 : Ref sig .tc := ⟨.hbm, 54, rfl⟩
abbrev main_call0_v1 : Ref sig .tc := ⟨.hbm, 55, rfl⟩
abbrev main_v32 : Ref sig .tc := ⟨.hbm, 56, rfl⟩
abbrev main_values : Ref sig .tc := ⟨.hbm, 57, rfl⟩
abbrev main_indices : Ref sig .tc := ⟨.hbm, 58, rfl⟩
abbrev main_c : Ref sig .tc := ⟨.hbm, 59, rfl⟩
abbrev main_v33 : Ref sig .tc := ⟨.hbm, 60, rfl⟩
abbrev main_v34 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v35 : Ref sig .tc := ⟨.hbm, 67, rfl⟩
abbrev main_cst_7 : Ref sig .tc := ⟨.hbm, 68, rfl⟩
abbrev main_v36 : Ref sig .tc := ⟨.hbm, 69, rfl⟩
abbrev main_cst_8 : Ref sig .tc := ⟨.hbm, 70, rfl⟩
abbrev main_cst_9 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v37 : Ref sig .tc := ⟨.hbm, 77, rfl⟩
abbrev main_cst_10 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_c_11 : Ref sig .tc := ⟨.hbm, 83, rfl⟩
abbrev main_v42 : Ref sig .tc := ⟨.hbm, 84, rfl⟩
abbrev main_v43 : Ref sig .tc := ⟨.hbm, 85, rfl⟩
abbrev main_c_12 : Ref sig .tc := ⟨.hbm, 86, rfl⟩
abbrev main_call3_v0 : Ref sig .tc := ⟨.hbm, 87, rfl⟩
abbrev main_call3_v1 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_c_13 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_14 : Ref sig .tc := ⟨.hbm, 101, rfl⟩
abbrev main_v55 : Ref sig .tc := ⟨.hbm, 102, rfl⟩
abbrev main_v56 : Ref sig .tc := ⟨.hbm, 103, rfl⟩
abbrev main_cst_15 : Ref sig .tc := ⟨.hbm, 104, rfl⟩
abbrev main_v57 : Ref sig .tc := ⟨.hbm, 105, rfl⟩
abbrev main_v58 : Ref sig .tc := ⟨.hbm, 106, rfl⟩
abbrev main_cst_16 : Ref sig .tc := ⟨.hbm, 107, rfl⟩
abbrev main_call4_v0 : Ref sig .tc := ⟨.hbm, 108, rfl⟩
abbrev main_call4_v1 : Ref sig .tc := ⟨.hbm, 109, rfl⟩
abbrev main_v59 : Ref sig .tc := ⟨.hbm, 110, rfl⟩
abbrev main_values_17 : Ref sig .tc := ⟨.hbm, 111, rfl⟩
abbrev main_indices_18 : Ref sig .tc := ⟨.hbm, 112, rfl⟩
abbrev main_v60 : Ref sig .tc := ⟨.hbm, 113, rfl⟩
abbrev main_call5_c : Ref sig .tc := ⟨.hbm, 114, rfl⟩
abbrev main_call5_v0 : Ref sig .tc := ⟨.hbm, 115, rfl⟩
abbrev main_call5_v1 : Ref sig .tc := ⟨.hbm, 116, rfl⟩
abbrev main_call5_c_0 : Ref sig .tc := ⟨.hbm, 117, rfl⟩
abbrev main_call5_v2 : Ref sig .tc := ⟨.hbm, 118, rfl⟩
abbrev main_call5_v3 : Ref sig .tc := ⟨.hbm, 119, rfl⟩
abbrev main_call5_v4 : Ref sig .tc := ⟨.hbm, 120, rfl⟩
abbrev main_call5_c_1 : Ref sig .tc := ⟨.hbm, 121, rfl⟩
abbrev main_call5_c_2 : Ref sig .tc := ⟨.hbm, 122, rfl⟩
abbrev main_call5_v5 : Ref sig .tc := ⟨.hbm, 123, rfl⟩
abbrev main_call5_v6 : Ref sig .tc := ⟨.hbm, 124, rfl⟩
abbrev main_call5_v7 : Ref sig .tc := ⟨.hbm, 125, rfl⟩
abbrev main_call5_v8 : Ref sig .tc := ⟨.hbm, 126, rfl⟩
abbrev main_call5_v9 : Ref sig .tc := ⟨.hbm, 127, rfl⟩
abbrev main_call5_v10 : Ref sig .tc := ⟨.hbm, 128, rfl⟩
abbrev main_call5_c_3 : Ref sig .tc := ⟨.hbm, 129, rfl⟩
abbrev main_call5_v11 : Ref sig .tc := ⟨.hbm, 130, rfl⟩
abbrev main_call5_v12 : Ref sig .tc := ⟨.hbm, 131, rfl⟩
abbrev main_call5_v13 : Ref sig .tc := ⟨.hbm, 132, rfl⟩
abbrev main_call5_cst : Ref sig .tc := ⟨.hbm, 133, rfl⟩
abbrev main_call5_v14 : Ref sig .tc := ⟨.hbm, 134, rfl⟩
abbrev main_v61 : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_call6_v3 : Ref sig .tc := ⟨.hbm, 139, rfl⟩
abbrev main_call6_v4 : Ref sig .tc := ⟨.hbm, 140, rfl⟩
abbrev main_v62 : Ref sig .tc := ⟨.hbm, 141, rfl⟩
abbrev main_cst_19 : Ref sig .tc := ⟨.hbm, 142, rfl⟩
abbrev main_v63 : Ref sig .tc := ⟨.hbm, 143, rfl⟩
abbrev main_cst_20 : Ref sig .tc := ⟨.hbm, 144, rfl⟩
abbrev main_cst_21 : Ref sig .tc := ⟨.hbm, 145, rfl⟩
abbrev main_call7_v0 : Ref sig .tc := ⟨.hbm, 146, rfl⟩
abbrev main_call7_v1 : Ref sig .tc := ⟨.hbm, 147, rfl⟩
abbrev main_call7_v2 : Ref sig .tc := ⟨.hbm, 148, rfl⟩
abbrev main_call7_v3 : Ref sig .tc := ⟨.hbm, 149, rfl⟩
abbrev main_call7_v4 : Ref sig .tc := ⟨.hbm, 150, rfl⟩
abbrev main_v64 : Ref sig .tc := ⟨.hbm, 151, rfl⟩
abbrev main_v65 : Ref sig .tc := ⟨.hbm, 152, rfl⟩
abbrev main_cst_22 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩

abbrev nD : Nat := 1
abbrev τ : Topo := Topo.v7x

variable {F : FTy → Type} [FloatOps F]
-- ==== Proof.Frames.lean ====
/-
  The frames of the three programs: each terminates on every weakly fair execution, leaves its arguments unchanged
  and every semaphore counter at zero.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

/-- The kernel's frame: the generated run, read at the arguments. -/
theorem frame_kernel : Cert.quiescent_Kernel := fun m ρ _ => Cert.Kernel.Gen.frame m ρ
/-- The idealized kernel's frame. -/
theorem frame_kernelIdeal : Cert.quiescent_KernelIdeal := fun m ρ _ => Cert.KernelIdeal.Gen.frame m ρ
/-- The reference's frame: its run read at the arguments; a host program declares no semaphore. -/
theorem frame_referenceIdeal : Cert.quiescent_ReferenceIdeal := fun m ρ _ =>
  (θ_run Cert.ReferenceIdeal.defs _ _).mono
    (fun r h => ⟨fun c => (h c).2.2.2.2.2.2, Idealize.ShloMosaic.sem_eq_zero_of_no_sems (by decide) r.2⟩)
    (Cert.ReferenceIdeal.Value.run (F := Ideal) m ρ)

end Cert.Proof

end
-- ==== Proof.TopRounds.lean ====
/-
  PICKING THE GREATEST k TIMES IS A STABLE SORT. Over a vector of extended reals none of which is minus infinity:
  take the least position of the greatest entry, overwrite that entry with minus infinity, repeat. The position
  taken in round r is the r-th position of the stable sort by descending value. Nothing here is about a program.
-/
module

public import Idealize.ShloMosaic.PureOps.ShapeOps
public import Idealize.ShloMosaic.Lib.SortFacts
public import Mathlib.Data.EReal.Basic

@[expose] public section

noncomputable section

namespace Cert.Rounds

open Idealize.ShloMosaic

variable {n : Nat}

/-- Position `p` holds the greatest entry of `v`, and is the least position that does. -/
def IsTop (v : Fin n → EReal) (p : Fin n) : Prop := (∀ j, v j ≤ v p) ∧ ∀ j, v j = v p → p ≤ j

/-- The vector with the entry at `p` overwritten by minus infinity. -/
def drop (v : Fin n → EReal) (p : Fin n) : Fin n → EReal := fun j => if j = p then ⊥ else v j

/-- "Stands before" in the stable descending order: greater, or equal at a smaller position. -/
def Pre (v : Fin n → EReal) (a b : Fin n) : Prop := v b < v a ∨ (v a = v b ∧ a < b)

/-- The positions of `v` in the stable descending order. -/
def order (v : Fin n → EReal) : List (Fin n) := sortPositions n fun a b => decide (v b < v a)

/-- Inserting a position smaller than all those listed keeps the stable descending order. -/
theorem pairwise_insert (v : Fin n → EReal) (a : Fin n) (l : List (Fin n)) (ha : ∀ b ∈ l, a < b) (hl : l.Pairwise (Pre v)) :
    (insertBefore (fun x y => decide (v y < v x)) a l).Pairwise (Pre v) := by
  induction l with
  | nil => simp [insertBefore]
  | cons b l ih =>
    obtain ⟨hb, hl'⟩ := List.pairwise_cons.mp hl
    unfold insertBefore
    split
    · next h =>
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl (of_decide_eq_true h)
      · exact hb x hx'
    · next h =>
      have hab : v b ≤ v a := not_lt.mp fun hlt => h (decide_eq_true hlt)
      refine List.pairwise_cons.mpr ⟨fun x hx => ?_, hl⟩
      have hle : v x ≤ v a := by
        rcases List.mem_cons.mp hx with rfl | hx'
        · exact hab
        · rcases hb x hx' with h1 | ⟨h1, -⟩
          · exact h1.le.trans hab
          · exact h1 ▸ hab
      rcases hle.lt_or_eq with h1 | h1
      · exact Or.inl h1
      · exact Or.inr ⟨h1.symm, ha x hx⟩

/-- The stable sort of positions in ascending order is in the stable descending order. -/
theorem pairwise_sort (v : Fin n → EReal) (l : List (Fin n)) (hl : l.Pairwise (· < ·)) :
    (stableSort (fun x y => decide (v y < v x)) l).Pairwise (Pre v) := by
  induction l with
  | nil => simp [stableSort]
  | cons a l ih =>
    obtain ⟨ha, hl'⟩ := List.pairwise_cons.mp hl
    unfold stableSort
    exact pairwise_insert v a _ (fun b hb => ha b ((perm_stableSort _ l).mem_iff.mp hb)) (ih hl')

theorem pairwise_order (v : Fin n → EReal) : (order v).Pairwise (Pre v) :=
  pairwise_sort v _ (List.pairwise_lt_finRange n)

theorem length_order (v : Fin n → EReal) : (order v).length = n := length_sortPositions n _

theorem mem_order (v : Fin n → EReal) (p : Fin n) : p ∈ order v :=
  (perm_sortPositions n _).mem_iff.mpr (List.mem_finRange p)

/-- The position the stable sort puts at place `r`. -/
def pick (v : Fin n → EReal) (r : Nat) (hr : r < n) : Fin n := (order v)[r]'(by rw [length_order]; exact hr)

/-- Places are in the stable descending order. -/
theorem pick_pre (v : Fin n → EReal) {r s : Nat} (hs : s < n) (h : r < s) : Pre v (pick v r (h.trans hs)) (pick v s hs) :=
  List.pairwise_iff_getElem.mp (pairwise_order v) r s _ _ h

theorem exists_pick (v : Fin n → EReal) (p : Fin n) : ∃ r, ∃ hr : r < n, pick v r hr = p := by
  obtain ⟨r, hr, h⟩ := List.getElem_of_mem (mem_order v p)
  exact ⟨r, by rw [length_order] at hr; exact hr, h⟩

theorem pick_ne (v : Fin n → EReal) {r s : Nat} (hs : s < n) (h : r < s) : pick v r (h.trans hs) ≠ pick v s hs := by
  rcases pick_pre v hs h with h1 | ⟨-, h1⟩
  · intro e; rw [e] at h1; exact lt_irrefl _ h1
  · exact h1.ne

/-- What is left of `v` before round `r`: the first `r` places overwritten with minus infinity. -/
def left (v : Fin n → EReal) : Nat → Fin n → EReal
  | 0 => v
  | r + 1 => if hr : r < n then drop (left v r) (pick v r hr) else left v r

/-- An entry at a place from `r` on is still there before round `r`. -/
theorem left_pick_of_le (v : Fin n → EReal) (r s : Nat) (hs : s < n) (h : r ≤ s) : left v r (pick v s hs) = v (pick v s hs) := by
  induction r with
  | zero => rfl
  | succ r ih =>
    unfold left
    rw [dif_pos (by omega : r < n)]
    unfold drop
    rw [if_neg (Ne.symm (pick_ne v hs (by omega))), ih (by omega)]

/-- An entry at a place below `r` is overwritten before round `r`. -/
theorem left_pick_of_lt (v : Fin n → EReal) (r s : Nat) (hs : s < n) (h : s < r) : left v r (pick v s hs) = ⊥ := by
  induction r with
  | zero => omega
  | succ r ih =>
    unfold left
    split
    · next hr =>
      unfold drop
      rcases Nat.lt_or_eq_of_le (Nat.le_of_lt_succ h) with h1 | h1
      · split
        · rfl
        · exact ih h1
      · subst h1; rw [if_pos rfl]
    · next hr => exact ih (by omega)

/-- THE ROUNDS: before round `r` the least position of the greatest entry left is the stable sort's `r`-th. -/
theorem isTop_left (v : Fin n → EReal) (hv : ∀ j, ⊥ < v j) (r : Nat) (hr : r < n) : IsTop (left v r) (pick v r hr) := by
  have hp := left_pick_of_le v r r hr le_rfl
  constructor
  · intro j
    obtain ⟨s, hs, rfl⟩ := exists_pick v j
    rw [hp]
    rcases Nat.lt_trichotomy s r with h | rfl | h
    · rw [left_pick_of_lt v r s hs h]; exact bot_le
    · exact hp.le
    · rw [left_pick_of_le v r s hs h.le]
      rcases pick_pre v hs h with h1 | ⟨h1, -⟩
      · exact h1.le
      · exact h1.ge
  · intro j hj
    obtain ⟨s, hs, rfl⟩ := exists_pick v j
    rw [hp] at hj
    rcases Nat.lt_trichotomy s r with h | rfl | h
    · rw [left_pick_of_lt v r s hs h] at hj
      exact absurd hj (hv _).ne
    · exact le_rfl
    · rw [left_pick_of_le v r s hs h.le] at hj
      rcases pick_pre v hs h with h1 | ⟨-, h1⟩
      · rw [hj] at h1; exact absurd h1 (lt_irrefl _)
      · exact h1.le

/-- One round: what is left after it. -/
theorem left_succ (v : Fin n → EReal) (r : Nat) (hr : r < n) : left v (r + 1) = drop (left v r) (pick v r hr) := by
  show (if hr : r < n then drop (left v r) (pick v r hr) else left v r) = _
  rw [dif_pos hr]

/-- The stable sort's `r`-th source is `pick`. -/
theorem sortedFrom_eq_pick (v : Fin n → EReal) (r : Fin n) :
    sortedFrom (fun a b => decide (v b < v a)) r = pick v r.val r.isLt := rfl

end Cert.Rounds

end
-- ==== Proof.WordMin.lean ====
/-
  The word a round computes: the least of "the position where the entry is the greatest, else n", over signed words,
  is the position that holds the greatest entry first. Nothing here is about a program.
-/
module

public import proofs.«01_k».proof.Proof.TopRounds
public import Idealize.ShloMosaic.Lib.WordArith
public import Idealize.ShloMosaic.Lib.Pointwise

@[expose] public section

noncomputable section

namespace Cert.Rounds

open Idealize.ShloMosaic

variable {n : Nat}

/-- Over words below 2³¹ a fold of the signed minimum is at most each word, and is one of them or the start. -/
theorem fold_minsi_eq {ι : Type} [DecidableEq ι] (s : Finset ι) (f : ι → BitVec 32) (g : ι → Nat) (hf : ∀ i ∈ s, f i = BitVec.ofNat 32 (g i))
    (hg : ∀ i ∈ s, g i < 2 ^ 31) (p : ι) (hp : p ∈ s) (hmin : ∀ i ∈ s, g p ≤ g i) :
    s.fold IntOp.minsi 2147483647#32 f = BitVec.ofNat 32 (g p) := by
  have key : ∀ t : Finset ι, t ⊆ s → (t.fold IntOp.minsi 2147483647#32 f).toNat < 2 ^ 31 ∧
      ∀ c : Nat, c < 2 ^ 31 → (c ≤ (t.fold IntOp.minsi 2147483647#32 f).toNat ↔ ∀ i ∈ t, c ≤ g i) := by
    intro t
    induction t using Finset.induction_on with
    | empty =>
      intro _
      refine ⟨by rw [Finset.fold_empty]; decide, fun c hc => ?_⟩
      rw [Finset.fold_empty]
      have : (2147483647#32 : BitVec 32).toNat = 2147483647 := rfl
      simp only [Finset.notMem_empty, false_imp_iff, implies_true, iff_true]
      omega
    | insert a t ha ih =>
      intro hs
      obtain ⟨h1, h2⟩ := ih ((Finset.subset_insert a t).trans hs)
      have has : a ∈ s := hs (Finset.mem_insert_self a t)
      have hga := hg a has
      have hfa : (f a).toNat = g a := by
        rw [hf a has, BitVec.toNat_ofNat]
        exact Nat.mod_eq_of_lt (by omega)
      rw [Finset.fold_insert ha, WordArith.toNat_minsi_of_lt _ _ (by omega) h1, hfa]
      refine ⟨by omega, fun c hc => ?_⟩
      rw [le_min_iff, h2 c hc, Finset.forall_mem_insert]
  obtain ⟨h1, h2⟩ := key s (Finset.Subset.refl s)
  apply BitVec.eq_of_toNat_eq
  rw [BitVec.toNat_ofNat, Nat.mod_eq_of_lt (by have := hg p hp; omega)]
  refine le_antisymm ?_ ((h2 _ (hg p hp)).mpr hmin)
  exact (h2 _ h1).mp le_rfl p hp

/-- The greatest entry is the fold of the maximum from minus infinity. -/
theorem fold_max_eq (v : Fin n → EReal) (p : Fin n) (h : IsTop v p) : Finset.univ.fold max ⊥ v = v p := by
  apply le_antisymm
  · exact (Finset.fold_max_le _).mpr ⟨bot_le, fun j _ => h.1 j⟩
  · exact (Finset.le_fold_max _).mpr (Or.inr ⟨p, Finset.mem_univ p, le_rfl⟩)

/-- A round's word is the position of the greatest entry. -/
theorem fold_where_eq (hn : n < 2 ^ 31) (v : Fin n → EReal) (p : Fin n) (h : IsTop v p) (f : Fin n → BitVec 32)
    (hf : ∀ j, f j = if v j = v p then BitVec.ofNat 32 j.val else BitVec.ofNat 32 n) :
    Finset.univ.fold IntOp.minsi 2147483647#32 f = BitVec.ofNat 32 p.val := by
  have hp := p.isLt
  have := fold_minsi_eq Finset.univ f (fun j => if v j = v p then j.val else n) (fun j _ => by rw [hf]; split <;> rfl)
    (fun j _ => by have := j.isLt; split <;> omega) p (Finset.mem_univ p)
    (fun j _ => by
      rw [if_pos rfl]
      split
      · next e => exact h.2 j e
      · omega)
  rw [this, if_pos rfl]

end Cert.Rounds

end
-- ==== Proof.Consts.lean ====
/-
  The float constants of the kernel and the reference, as extended reals.
-/
module

public import Idealize.ShloMosaic.Lib.IdealHost
public import Idealize.ShloMosaic.Lib.Pointwise

@[expose] public section

noncomputable section

namespace Cert.Consts

open Idealize.ShloMosaic

theorem negInf : Ideal.ofBits .f32 0xFF800000#32 = ⊥ := by simp [Ideal.ofBits, Ideal.ieee]
theorem posInf : Ideal.ofBits .f32 0x7F800000#32 = ⊤ := by simp [Ideal.ofBits, Ideal.ieee]
theorem c32 : Ideal.ofBits .f32 0x42000000#32 = ((32 : ℝ) : EReal) := by
  simp [Ideal.ofBits, Ideal.ieee, -EReal.coe_mul]; norm_num
theorem c32inv : Ideal.ofBits .f32 0x3D000000#32 = ((1 / 32 : ℝ) : EReal) := by
  simp [Ideal.ofBits, Ideal.ieee, -EReal.coe_mul]; norm_num
theorem negBig : ∃ r : ℝ, Ideal.ofBits .f32 0xCE6E6B28#32 = (r : EReal) := by
  simp [Ideal.ofBits, Ideal.ieee, -EReal.coe_mul]
  exact ⟨-(15625000 * 2 ^ 6), by norm_num⟩
theorem tiny : ∃ r : ℝ, 0 < r ∧ Ideal.ofBits .f32 0x2B8CBCCC#32 = (r : EReal) := by
  simp [Ideal.ofBits, Ideal.ieee, -EReal.coe_mul]

end Cert.Consts

end
-- ==== Proof.KRounds.lean ====
/-
  ONE ROUND OF THE KERNEL. A round takes the vector of scores that are left, finds the greatest, takes the least
  position that holds it, and overwrites the entry there with minus infinity. Here the round's four values (the
  position as a word, the lanes it is at, the one-hot row, the scores left after it) are written as functions of the
  scores left before it, for the two widths the kernel uses, and read at a lane in terms of the position.
-/
module

public import proofs.«01_k».proof.Proof.WordMin
public import proofs.«01_k».proof.Proof.Consts
public import proofs.«01_k».proof.Proof.Gen.KernelIdeal.Skeleton

@[expose] public section

noncomputable section

namespace Cert.KernelIdeal.Rounds

open Idealize.ShloMosaic Cert.KernelIdeal Cert.KernelIdeal.Gen Cert.Rounds

/-- Comparing the words of two positions compares the positions. -/
theorem cmp_pos {n : Nat} (hn : n < 2 ^ 32) (k p : Fin n) :
    IntOp.cmpi .eq (BitVec.ofNat 32 k.val) (BitVec.ofNat 32 p.val) = if k = p then 1#1 else 0#1 := by
  have hk := k.isLt
  have hp := p.isLt
  have e : (BitVec.ofNat 32 k.val = BitVec.ofNat 32 p.val) ↔ k = p := by
    refine ⟨fun h => Fin.ext ?_, fun h => h ▸ rfl⟩
    have := congrArg BitVec.toNat h
    rwa [BitVec.toNat_ofNat, BitVec.toNat_ofNat, Nat.mod_eq_of_lt (by omega), Nat.mod_eq_of_lt (by omega)] at this
  by_cases h : k = p
  · rw [if_pos h, h]; simp [IntOp.cmpi]
  · rw [if_neg h]
    have : BitVec.ofNat 32 k.val ≠ BitVec.ofNat 32 p.val := fun h' => h (e.mp h')
    simp only [IntOp.cmpi, beq_eq_false_iff_ne.mpr this]
    rfl

/-- A bit widened to a word and converted is one or zero. -/
theorem bit_float (c : Prop) [Decidable c] :
    (FloatOps.sitofp FTy.f32 (BitVec.setWidth 32 (if c then 1#1 else 0#1)) : Ideal .f32) = if c then (1 : EReal) else 0 := by
  split
  · show (((1#32 : BitVec 32).toInt : ℝ) : EReal) = 1
    norm_num
  · show (((0#32 : BitVec 32).toInt : ℝ) : EReal) = 0
    norm_num

/-! ## The frames' rounds, over 64 lanes -/

namespace Frame

/-- The lanes' numbers. -/
def lanes : IVec S1x64 32 := iota .tc S1x64 32 [1] iota_S1x64_d1_w32

/-- The greatest score, on every lane. -/
def top (v : FVec Ideal S1x64 .f32) : FVec Ideal S1x64 .f32 :=
  broadcastTo S1x64 (shapeCast S1x1 (multiReduction .maximumf [1] S1 v 0xFF800000#32 reduces_S1x64_S1 (.inl rfl) rfl)
    shapeCasts_S1_S1x1) broadcasts_S1x1_S1x64

/-- The round's position, from the lanes that hold the greatest score. -/
def least (c : IVec S1x64 1) : IVec S1x1 32 :=
  shapeCast S1x1 (multiReductionI .minsi [1] S1 (select c lanes (broadcast S1x64 64#32)) 2147483647#32 reduces_S1x64_S1 rfl)
    shapeCasts_S1_S1x1

/-- The round's position, as a word. -/
def pos (v : FVec Ideal S1x64 .f32) : IVec S1x1 32 := least (cmpf .oeq v (top v))

/-- The lanes at a position. -/
def at_ (w : IVec S1x1 32) : IVec S1x64 1 := cmpi .eq lanes (broadcastTo S1x64 w broadcasts_S1x1_S1x64)

/-- The one-hot row of the round. -/
def row (v : FVec Ideal S1x64 .f32) : FVec Ideal S1x64 .f32 := sitofp .f32 (extui 32 (at_ (pos v)) natLt_1_32)

/-- The scores left after the round. -/
def next (v : FVec Ideal S1x64 .f32) : FVec Ideal S1x64 .f32 :=
  select (at_ (pos v)) (broadcast S1x64 (Scalar.ofBits .f32 0xFF800000#32)) v

/-- The vector as a function of the lane. -/
def lane (v : FVec Ideal S1x64 .f32) : Fin 64 → EReal := fun k => v (ix2 0 k)

theorem pos_eq (v : FVec Ideal S1x64 .f32) (p : Fin 64) (h : IsTop (lane v) p) (j : S1x1.Idx) : pos v j = BitVec.ofNat 32 p.val := by
  idx_vars j
  pointwise [pos, least, top, lanes]
  rw [Consts.negInf]
  have e := fold_max_eq (lane v) p h
  unfold lane at e
  rw [e]
  exact fold_where_eq (by decide) (lane v) p h _ fun k => rfl

theorem row_eq (v : FVec Ideal S1x64 .f32) (p : Fin 64) (h : IsTop (lane v) p) (k : Fin 64) :
    row v (ix2 0 k) = if k = p then 1 else 0 := by
  have e := pos_eq v p h (ix2 0 0)
  pointwise [row, at_, lanes, e]
  rw [cmp_pos (by decide), bit_float]

theorem next_eq (v : FVec Ideal S1x64 .f32) (p : Fin 64) (h : IsTop (lane v) p) : lane (next v) = drop (lane v) p := by
  funext k
  have e := pos_eq v p h (ix2 0 0)
  unfold lane drop
  pointwise [next, at_, lanes, e]
  rw [cmp_pos (by decide), Consts.negInf]
  split <;> rfl

/-- The scores left before round `r`. -/
def rest (v : FVec Ideal S1x64 .f32) : Nat → FVec Ideal S1x64 .f32
  | 0 => v
  | r + 1 => next (rest v r)

theorem lane_rest (v : FVec Ideal S1x64 .f32) (hv : ∀ k, ⊥ < lane v k) (r : Nat) (hr : r ≤ 64) : lane (rest v r) = left (lane v) r := by
  induction r with
  | zero => rfl
  | succ r ih =>
    rw [left_succ _ r hr, rest, ← ih (by omega)]
    refine next_eq _ _ ?_
    rw [ih (by omega)]
    exact isTop_left _ hv r hr

/-- In round `r` the kernel's position is the stable sort's `r`-th. -/
theorem pos_rest (v : FVec Ideal S1x64 .f32) (hv : ∀ k, ⊥ < lane v k) (r : Nat) (hr : r < 64) (j : S1x1.Idx) :
    pos (rest v r) j = BitVec.ofNat 32 (pick (lane v) r hr).val := by
  refine pos_eq _ _ ?_ j
  rw [lane_rest v hv r hr.le]
  exact isTop_left _ hv r hr

/-- In round `r` the kernel's row is one at the stable sort's `r`-th position and zero elsewhere. -/
theorem row_rest (v : FVec Ideal S1x64 .f32) (hv : ∀ k, ⊥ < lane v k) (r : Nat) (hr : r < 64) (k : Fin 64) :
    row (rest v r) (ix2 0 k) = if k = pick (lane v) r hr then 1 else 0 := by
  refine row_eq _ _ ?_ k
  rw [lane_rest v hv r hr.le]
  exact isTop_left _ hv r hr

end Frame

/-! ## The OCR tokens' rounds, over 2048 lanes -/

namespace Ocr

/-- The lanes' numbers. -/
def lanes : IVec S1x2048 32 := iota .tc S1x2048 32 [1] iota_S1x2048_d1_w32

/-- The greatest score, on every lane. -/
def top (v : FVec Ideal S1x2048 .f32) : FVec Ideal S1x2048 .f32 :=
  broadcastTo S1x2048 (shapeCast S1x1 (multiReduction .maximumf [1] S1 v 0xFF800000#32 reduces_S1x2048_S1 (.inl rfl) rfl)
    shapeCasts_S1_S1x1) broadcasts_S1x1_S1x2048

/-- The round's position, from the lanes that hold the greatest score. -/
def least (c : IVec S1x2048 1) : IVec S1x1 32 :=
  shapeCast S1x1 (multiReductionI .minsi [1] S1 (select c lanes (broadcast S1x2048 2048#32)) 2147483647#32 reduces_S1x2048_S1 rfl)
    shapeCasts_S1_S1x1

/-- The round's position, as a word. -/
def pos (v : FVec Ideal S1x2048 .f32) : IVec S1x1 32 := least (cmpf .oeq v (top v))

/-- The lanes at a position. -/
def at_ (w : IVec S1x1 32) : IVec S1x2048 1 := cmpi .eq lanes (broadcastTo S1x2048 w broadcasts_S1x1_S1x2048)

/-- The one-hot row of the round. -/
def row (v : FVec Ideal S1x2048 .f32) : FVec Ideal S1x2048 .f32 := sitofp .f32 (extui 32 (at_ (pos v)) natLt_1_32)

/-- The scores left after the round. -/
def next (v : FVec Ideal S1x2048 .f32) : FVec Ideal S1x2048 .f32 :=
  select (at_ (pos v)) (broadcast S1x2048 (Scalar.ofBits .f32 0xFF800000#32)) v

/-- The vector as a function of the lane. -/
def lane (v : FVec Ideal S1x2048 .f32) : Fin 2048 → EReal := fun k => v (ix2 0 k)

theorem pos_eq (v : FVec Ideal S1x2048 .f32) (p : Fin 2048) (h : IsTop (lane v) p) (j : S1x1.Idx) : pos v j = BitVec.ofNat 32 p.val := by
  idx_vars j
  pointwise [pos, least, top, lanes]
  rw [Consts.negInf]
  have e := fold_max_eq (lane v) p h
  unfold lane at e
  rw [e]
  exact fold_where_eq (by decide) (lane v) p h _ fun k => rfl

theorem row_eq (v : FVec Ideal S1x2048 .f32) (p : Fin 2048) (h : IsTop (lane v) p) (k : Fin 2048) :
    row v (ix2 0 k) = if k = p then 1 else 0 := by
  have e := pos_eq v p h (ix2 0 0)
  pointwise [row, at_, lanes, e]
  rw [cmp_pos (by decide), bit_float]

theorem next_eq (v : FVec Ideal S1x2048 .f32) (p : Fin 2048) (h : IsTop (lane v) p) : lane (next v) = drop (lane v) p := by
  funext k
  have e := pos_eq v p h (ix2 0 0)
  unfold lane drop
  pointwise [next, at_, lanes, e]
  rw [cmp_pos (by decide), Consts.negInf]
  split <;> rfl

/-- The scores left before round `r`. -/
def rest (v : FVec Ideal S1x2048 .f32) : Nat → FVec Ideal S1x2048 .f32
  | 0 => v
  | r + 1 => next (rest v r)

theorem lane_rest (v : FVec Ideal S1x2048 .f32) (hv : ∀ k, ⊥ < lane v k) (r : Nat) (hr : r ≤ 2048) : lane (rest v r) = left (lane v) r := by
  induction r with
  | zero => rfl
  | succ r ih =>
    rw [left_succ _ r hr, rest, ← ih (by omega)]
    refine next_eq _ _ ?_
    rw [ih (by omega)]
    exact isTop_left _ hv r hr

/-- In round `r` the kernel's position is the stable sort's `r`-th. -/
theorem pos_rest (v : FVec Ideal S1x2048 .f32) (hv : ∀ k, ⊥ < lane v k) (r : Nat) (hr : r < 2048) (j : S1x1.Idx) :
    pos (rest v r) j = BitVec.ofNat 32 (pick (lane v) r hr).val := by
  refine pos_eq _ _ ?_ j
  rw [lane_rest v hv r hr.le]
  exact isTop_left _ hv r hr

/-- In round `r` the kernel's row is one at the stable sort's `r`-th position and zero elsewhere. -/
theorem row_rest (v : FVec Ideal S1x2048 .f32) (hv : ∀ k, ⊥ < lane v k) (r : Nat) (hr : r < 2048) (k : Fin 2048) :
    row (rest v r) (ix2 0 k) = if k = pick (lane v) r hr then 1 else 0 := by
  refine row_eq _ _ ?_ k
  rw [lane_rest v hv r hr.le]
  exact isTop_left _ hv r hr

end Ocr

end Cert.KernelIdeal.Rounds

end
-- ==== Proof.KChain.lean ====
/-
  THE ROUNDS OF THE KERNEL'S BODY, ONE AFTER ANOTHER. The body's values are stated apart in the generated frame, cut
  where its parts end. Each one a round leaves is shown to be that round's value, as ONE function of the scores the
  rounds start from: the frames' eight rounds from the masked frame scores, the OCR tokens' thirty-two from the masked
  OCR scores.
-/
module

public import proofs.«01_k».proof.Proof.KRounds
public import proofs.«01_k».proof.Proof.Gen.KernelIdeal.Frame

@[expose] public section

set_option maxRecDepth 16384

noncomputable section

namespace Cert.KernelIdeal.Rounds

open Idealize.ShloMosaic Cert.KernelIdeal Cert.KernelIdeal.Gen

variable (x0 : Vec Ideal S1x32x1024 .f32) (x1 : Vec Ideal S1x32x1 .f32) (x2 : Vec Ideal S1x64x1024 .f32) (x3 : Vec Ideal S1x1x64 .f32) (x4 : Vec Ideal S1x2048x1024 .f32) (x5 : Vec Ideal S1x1x2048 .f32) (x6 : Vec Ideal S1x2048x4 .f32) (x7 : Vec Ideal S1x1x2048 .i32) (x8 : Vec Ideal S1024x1024 .f32) (x9 : Vec Ideal S1x1024 .f32) (x10 : Vec Ideal S1024x1 .f32) (x11 : Vec Ideal S1x1 .f32) (x12 : Vec Ideal S1024x1024 .f32) (x13 : Vec Ideal S1024x1024 .f32)

/-! ## The frames' rounds -/

/-- The masked frame scores the rounds start from. -/
abbrev sf : FVec Ideal S1x64 .f32 := k0_pay164 x0 x1 x2 x3 x4 x5 x6 x7 x8 x9 x10 x11 x12 x13

theorem v166 : k0_pay166 x0 x1 x2 x3 x4 x5 x6 x7 x8 x9 x10 x11 x12 x13 = Frame.pos (Frame.rest (sf x0 x1 x2 x3 x4 x5 x6 x7 x8 x9 x10 x11 x12 x13) 0) := rfl
theorem v167 : k0_pay167 x0 x1 x2 x3 x4 x5 x6 x7 x8 x9 x10 x11 x12 x13 = Frame.row (Frame.rest (sf x0 x1 x2 x3 x4 x5 x6 x7 x8 x9 x10 x11 x12 x13) 0) := by
  unfold k0_pay167; rw [v166 x0 x1 x2 x3 x4 x5 x6 x7 x8 x9 x10 x11 x12 x13]; rfl
theorem v168 : k0_pay168 x0 x1 x2 x3 x4 x5 x6 x7 x8 x9 x10 x11 x12 x13 = Frame.row (Frame.rest (sf x0 x1 x2 x3 x4 x5 x6 x7 x8 x9 x10 x11 x12 x13) 1) := by
  unfold k0_pay168; rw [v166 x0 x1 x2 x3 x4 x5 x6 x7 x8 x9 x10 x11 x12 x13]; rfl
theorem v169 : k0_pay169 x0 x1 x2 x3 x4 x5 x6 x7 x8 x9 x10 x11 x12 x13 = (Frame.rest (sf x0 x1 x2 x3 x4 x5 x6 x7 x8 x9 x10 x11 x12 x13) 2) := by
  unfold k0_pay169; rw [v166 x0 x1 x2 x3 x4 x5 x6 x7 x8 x9 x10 x11 x12 x13]; rfl
theorem v170 : k0_pay170 x0 x1 x2 x3 x4 x5 x6 x7 x8 x9 x10 x11 x12 x13 = Frame.pos (Frame.rest (sf x0 x1 x2 x3 x4 x5 x6 x7 x8 x9 x10 x11 x12 x13) 2) := by
  unfold k0_pay170; rw [v166 x0 x1 x2 x3 x4 x5 x6 x7 x8 x9 x10 x11 x12 x13]; rfl
theorem v171 : k0_pay171 x0 x1 x2 x3 x4 x5 x6 x7 x8 x9 x10 x11 x12 x13 = Frame.row (Frame.rest (sf x0 x1 x2 x3 x4 x5 x6 x7 x8 x9 x10 x11 x12 x13) 2) := by
  unfold k0_pay171; rw [v170 x0 x1 x2 x3 x4 x5 x6 x7 x8 x9 x10 x11 x12 x13]; rfl
theorem v172 : k0_pay172 x0 x1 x2 x3 x4 x5 x6 x7 x8 x9 x10 x11 x12 x13 = Frame.row (Frame.rest (sf x0 x1 x2 x3 x4 x5 x6 x7 x8 x9 x10 x11 x12 x13) 3) := by
  unfold k0_pay172; rw [v170 x0 x1 x2 x3 x4 x5 x6 x7 x8 x9 x10 x11 x12 x13, v169 x0 x1 x2 x3 x4 x5 x6 x7 x8 x9 x10 x11 x12 x13]; rfl
theorem v173 : k0_pay173 x0 x1 x2 x3 x4 x5 x6 x7 x8 x9 x10 x11 x12 x13 = (Frame.rest (sf x0 x1 x2 x3 x4 x5 x6 x7 x8 x9 x10 x11 x12 x13) 4) := by
  unfold k0_pay173; rw [v170 x0 x1 x2 x3 x4 x5 x6 x7 x8 x9 x10 x11 x12 x13, v169 x0 x1 x2 x3 x4 x5 x6 x7 x8 x9 x10 x11 x12 x13]; rfl
theorem v174 : k0_pay174 x0 x1 x2 x3 x4 x5 x6 x7 x8 x9 x10 x11 x12 x13 = cmpf .oeq (Frame.rest (sf x0 x1 x2 x3 x4 x5 x6 x7 x8 x9 x10 x11 x12 x13) 4) (Frame.top (Frame.rest (sf x0 x1 x2 x3 x4 x5 x6 x7 x8 x9 x10 x11 x12 x13) 4)) := by
  unfold k0_pay174; rw [v170 x0 x1 x2 x3 x4 x5 x6 x7 x8 x9 x10 x11 x12 x13, v169 x0 x1 x2 x3 x4 x5 x6 x7 x8 x9 x10 x11 x12 x13]; rfl
theorem v175 : k0_pay175 x0 x1 x2 x3 x4 x5 x6 x7 x8 x9 x10 x11 x12 x13 = Frame.row (Frame.rest (sf x0 x1 x2 x3 x4 x5 x6 x7 x8 x9 x10 x11 x12 x13) 4) := by
  unfold k0_pay175; rw [v174 x0 x1 x2 x3 x4 x5 x6 x7 x8 x9 x10 x11 x12 x13]; rfl
theorem v176 : k0_pay176 x0 x1 x2 x3 x4 x5 x6 x7 x8 x9 x10 x11 x12 x13 = Frame.row (Frame.rest (sf x0 x1 x2 x3 x4 x5 x6 x7 x8 x9 x10 x11 x12 x13) 5) := by
  unfold k0_pay176; rw [v174 x0 x1 x2 x3 x4 x5 x6 x7 x8 x9 x10 x11 x12 x13, v173 x0 x1 x2 x3 x4 x5 x6 x7 x8 x9 x10 x11 x12 x13]; rfl
theorem v177 : k0_pay177 x0 x1 x2 x3 x4 x5 x6 x7 x8 x9 x10 x11 x12 x13 = (Frame.rest (sf x0 x1 x2 x3 x4 x5 x6 x7 x8 x9 x10 x11 x12 x13) 6) := by
  unfold k0_pay177; rw [v174 x0 x1 x2 x3 x4 x5 x6 x7 x8 x9 x10 x11 x12 x13, v173 x0 x1 x2 x3 x4 x5 x6 x7 x8 x9 x10 x11 x12 x13]; rfl
theorem v178 : k0_pay178 x0 x1 x2 x3 x4 x5 x6 x7 x8 x9 x10 x11 x12 x13 = Frame.row (Frame.rest (sf x0 x1 x2 x3 x4 x5 x6 x7 x8 x9 x10 x11 x12 x13) 6) := by
  unfold k0_pay178; rw [v177 x0 x1 x2 x3 x4 x5 x6 x7 x8 x9 x10 x11 x12 x13]; rfl
theorem v180 : k0_pay180 x0 x1 x2 x3 x4 x5 x6 x7 x8 x9 x10 x11 x12 x13 = Frame.row (Frame.rest (sf x0 x1 x2 x3 x4 x5 x6 x7 x8 x9 x10 x11 x12 x13) 7) := by
  unfold k0_pay180; rw [v177 x0 x1 x2 x3 x4 x5 x6 x7 x8 x9 x10 x11 x12 x13]; rfl
theorem v181 : k0_pay181 x0 x1 x2 x3 x4 x5 x6 x7 x8 x9 x10 x11 x12 x13 = addi (Frame.pos (Frame.rest (sf x0 x1 x2 x3 x4 x5 x6 x7 x8 x9 x10 x11 x12 x13) 7)) (broadcast S1x1 1#32) := by
  unfold k0_pay181; rw [v177 x0 x1 x2 x3 x4 x5 x6 x7 x8 x9 x10 x11 x12 x13]; rfl

/-! ## The OCR tokens' rounds -/

/-- The masked OCR scores the rounds start from. -/
abbrev so : FVec Ideal S1x2048 .f32 := k0_pay59 (k0_pay183 x0 x1 x2 x3 x4 x5 x6 x7 x8 x9 x10 x11 x12 x13) (k0_pay184 x0 x1 x2 x3 x4 x5 x6 x7 x8 x9 x10 x11 x12 x13)

theorem v186 : k0_pay186 x0 x1 x2 x3 x4 x5 x6 x7 x8 x9 x10 x11 x12 x13 = Ocr.row (Ocr.rest (so x0 x1 x2 x3 x4 x5 x6 x7 x8 x9 x10 x11 x12 x13) 0) := rfl
theorem v187 : k0_pay187 x0 x1 x2 x3 x4 x5 x6 x7 x8 x9 x10 x11 x12 x13 = Ocr.row (Ocr.rest (so x0 x1 x2 x3 x4 x5 x6 x7 x8 x9 x10 x11 x12 x13) 1) := rfl
theorem v188 : k0_pay188 x0 x1 x2 x3 x4 x5 x6 x7 x8 x9 x10 x11 x12 x13 = Ocr.row (Ocr.rest (so x0 x1 x2 x3 x4 x5 x6 x7 x8 x9 x10 x11 x12 x13) 2) := rfl
theorem v189 : k0_pay189 x0 x1 x2 x3 x4 x5 x6 x7 x8 x9 x10 x11 x12 x13 = (Ocr.rest (so x0 x1 x2 x3 x4 x5 x6 x7 x8 x9 x10 x11 x12 x13) 3) := rfl
theorem v190 : k0_pay190 x0 x1 x2 x3 x4 x5 x6 x7 x8 x9 x10 x11 x12 x13 = multiReduction .maximumf [1] S1 (Ocr.rest (so x0 x1 x2 x3 x4 x5 x6 x7 x8 x9 x10 x11 x12 x13) 3) 0xFF800000#32 reduces_S1x2048_S1 (.inl rfl) rfl := rfl
theorem v191 : k0_pay191 x0 x1 x2 x3 x4 x5 x6 x7 x8 x9 x10 x11 x12 x13 = Ocr.row (Ocr.rest (so x0 x1 x2 x3 x4 x5 x6 x7 x8 x9 x10 x11 x12 x13) 3) := by
  unfold k0_pay191; rw [v189 x0 x1 x2 x3 x4 x5 x6 x7 x8 x9 x10 x11 x12 x13, v190 x0 x1 x2 x3 x4 x5 x6 x7 x8 x9 x10 x11 x12 x13]; rfl
theorem v192 : k0_pay192 x0 x1 x2 x3 x4 x5 x6 x7 x8 x9 x10 x11 x12 x13 = Ocr.row (Ocr.rest (so x0 x1 x2 x3 x4 x5 x6 x7 x8 x9 x10 x11 x12 x13) 4) := by
  unfold k0_pay192; rw [v189 x0 x1 x2 x3 x4 x5 x6 x7 x8 x9 x10 x11 x12 x13, v190 x0 x1 x2 x3 x4 x5 x6 x7 x8 x9 x10 x11 x12 x13]; rfl
theorem v193 : k0_pay193 x0 x1 x2 x3 x4 x5 x6 x7 x8 x9 x10 x11 x12 x13 = Ocr.row (Ocr.rest (so x0 x1 x2 x3 x4 x5 x6 x7 x8 x9 x10 x11 x12 x13) 5) := by
  unfold k0_pay193; rw [v189 x0 x1 x2 x3 x4 x5 x6 x7 x8 x9 x10 x11 x12 x13, v190 x0 x1 x2 x3 x4 x5 x6 x7 x8 x9 x10 x11 x12 x13]; rfl
theorem v194 : k0_pay194 x0 x1 x2 x3 x4 x5 x6 x7 x8 x9 x10 x11 x12 x13 = (Ocr.rest (so x0 x1 x2 x3 x4 x5 x6 x7 x8 x9 x10 x11 x12 x13) 6) := by
  unfold k0_pay194; rw [v189 x0 x1 x2 x3 x4 x5 x6 x7 x8 x9 x10 x11 x12 x13, v190 x0 x1 x2 x3 x4 x5 x6 x7 x8 x9 x10 x11 x12 x13]; rfl
theorem v195 : k0_pay195 x0 x1 x2 x3 x4 x5 x6 x7 x8 x9 x10 x11 x12 x13 = select (cmpf .oeq (Ocr.rest (so x0 x1 x2 x3 x4 x5 x6 x7 x8 x9 x10 x11 x12 x13) 6) (Ocr.top (Ocr.rest (so x0 x1 x2 x3 x4 x5 x6 x7 x8 x9 x10 x11 x12 x13) 6))) Ocr.lanes (broadcast S1x2048 2048#32) := by
  unfold k0_pay195; rw [v189 x0 x1 x2 x3 x4 x5 x6 x7 x8 x9 x10 x11 x12 x13, v190 x0 x1 x2 x3 x4 x5 x6 x7 x8 x9 x10 x11 x12 x13]; rfl
theorem v196 : k0_pay196 x0 x1 x2 x3 x4 x5 x6 x7 x8 x9 x10 x11 x12 x13 = Ocr.row (Ocr.rest (so x0 x1 x2 x3 x4 x5 x6 x7 x8 x9 x10 x11 x12 x13) 6) := by
  unfold k0_pay196; rw [v195 x0 x1 x2 x3 x4 x5 x6 x7 x8 x9 x10 x11 x12 x13]; rfl
theorem v197 : k0_pay197 x0 x1 x2 x3 x4 x5 x6 x7 x8 x9 x10 x11 x12 x13 = Ocr.row (Ocr.rest (so x0 x1 x2 x3 x4 x5 x6 x7 x8 x9 x10 x11 x12 x13) 7) := by
  unfold k0_pay197; rw [v195 x0 x1 x2 x3 x4 x5 x6 x7 x8 x9 x10 x11 x12 x13, v194 x0 x1 x2 x3 x4 x5 x6 x7 x8 x9 x10 x11 x12 x13]; rfl
theorem v198 : k0_pay198 x0 x1 x2 x3 x4 x5 x6 x7 x8 x9 x10 x11 x12 x13 = Ocr.row (Ocr.rest (so x0 x1 x2 x3 x4 x5 x6 x7 x8 x9 x10 x11 x12 x13) 8) := by
  unfold k0_pay198; rw [v195 x0 x1 x2 x3 x4 x5 x6 x7 x8 x9 x10 x11 x12 x13, v194 x0 x1 x2 x3 x4 x5 x6 x7 x8 x9 x10 x11 x12 x13]; rfl
theorem v199 : k0_pay199 x0 x1 x2 x3 x4 x5 x6 x7 x8 x9 x10 x11 x12 x13 = (Ocr.rest (so x0 x1 x2 x3 x4 x5 x6 x7 x8 x9 x10 x11 x12 x13) 9) := by
  unfold k0_pay199; rw [v195 x0 x1 x2 x3 x4 x5 x6 x7 x8 x9 x10 x11 x12 x13, v194 x0 x1 x2 x3 x4 x5 x6 x7 x8 x9 x10 x11 x12 x13]; rfl
theorem v200 : k0_pay200 x0 x1 x2 x3 x4 x5 x6 x7 x8 x9 x10 x11 x12 x13 = Ocr.at_ (Ocr.pos (Ocr.rest (so x0 x1 x2 x3 x4 x5 x6 x7 x8 x9 x10 x11 x12 x13) 9)) := by
  unfold k0_pay200; rw [v195 x0 x1 x2 x3 x4 x5 x6 x7 x8 x9 x10 x11 x12 x13, v194 x0 x1 x2 x3 x4 x5 x6 x7 x8 x9 x10 x11 x12 x13]; rfl
theorem v201 : k0_pay201 x0 x1 x2 x3 x4 x5 x6 x7 x8 x9 x10 x11 x12 x13 = Ocr.row (Ocr.rest (so x0 x1 x2 x3 x4 x5 x6 x7 x8 x9 x10 x11 x12 x13) 9) := by
  unfold k0_pay201; rw [v195 x0 x1 x2 x3 x4 x5 x6 x7 x8 x9 x10 x11 x12 x13, v194 x0 x1 x2 x3 x4 x5 x6 x7 x8 x9 x10 x11 x12 x13]; rfl
theorem v202 : k0_pay202 x0 x1 x2 x3 x4 x5 x6 x7 x8 x9 x10 x11 x12 x13 = Ocr.row (Ocr.rest (so x0 x1 x2 x3 x4 x5 x6 x7 x8 x9 x10 x11 x12 x13) 10) := by
  unfold k0_pay202; rw [v200 x0 x1 x2 x3 x4 x5 x6 x7 x8 x9 x10 x11 x12 x13, v199 x0 x1 x2 x3 x4 x5 x6 x7 x8 x9 x10 x11 x12 x13]; rfl
theorem v203 : k0_pay203 x0 x1 x2 x3 x4 x5 x6 x7 x8 x9 x10 x11 x12 x13 = Ocr.row (Ocr.rest (so x0 x1 x2 x3 x4 x5 x6 x7 x8 x9 x10 x11 x12 x13) 11) := by
  unfold k0_pay203; rw [v200 x0 x1 x2 x3 x4 x5 x6 x7 x8 x9 x10 x11 x12 x13, v199 x0 x1 x2 x3 x4 x5 x6 x7 x8 x9 x10 x11 x12 x13]; rfl
theorem v204 : k0_pay204 x0 x1 x2 x3 x4 x5 x6 x7 x8 x9 x10 x11 x12 x13 = Ocr.row (Ocr.rest (so x0 x1 x2 x3 x4 x5 x6 x7 x8 x9 x10 x11 x12 x13) 12) := by
  unfold k0_pay204; rw [v200 x0 x1 x2 x3 x4 x5 x6 x7 x8 x9 x10 x11 x12 x13, v199 x0 x1 x2 x3 x4 x5 x6 x7 x8 x9 x10 x11 x12 x13]; rfl
theorem v205 : k0_pay205 x0 x1 x2 x3 x4 x5 x6 x7 x8 x9 x10 x11 x12 x13 = (Ocr.rest (so x0 x1 x2 x3 x4 x5 x6 x7 x8 x9 x10 x11 x12 x13) 13) := by
  unfold k0_pay205; rw [v200 x0 x1 x2 x3 x4 x5 x6 x7 x8 x9 x10 x11 x12 x13, v199 x0 x1 x2 x3 x4 x5 x6 x7 x8 x9 x10 x11 x12 x13]; rfl
theorem v206 : k0_pay206 x0 x1 x2 x3 x4 x5 x6 x7 x8 x9 x10 x11 x12 x13 = multiReduction .maximumf [1] S1 (Ocr.rest (so x0 x1 x2 x3 x4 x5 x6 x7 x8 x9 x10 x11 x12 x13) 13) 0xFF800000#32 reduces_S1x2048_S1 (.inl rfl) rfl := by
  unfold k0_pay206; rw [v200 x0 x1 x2 x3 x4 x5 x6 x7 x8 x9 x10 x11 x12 x13, v199 x0 x1 x2 x3 x4 x5 x6 x7 x8 x9 x10 x11 x12 x13]; rfl
theorem v207 : k0_pay207 x0 x1 x2 x3 x4 x5 x6 x7 x8 x9 x10 x11 x12 x13 = Ocr.row (Ocr.rest (so x0 x1 x2 x3 x4 x5 x6 x7 x8 x9 x10 x11 x12 x13) 13) := by
  unfold k0_pay207; rw [v205 x0 x1 x2 x3 x4 x5 x6 x7 x8 x9 x10 x11 x12 x13, v206 x0 x1 x2 x3 x4 x5 x6 x7 x8 x9 x10 x11 x12 x13]; rfl
theorem v208 : k0_pay208 x0 x1 x2 x3 x4 x5 x6 x7 x8 x9 x10 x11 x12 x13 = Ocr.row (Ocr.rest (so x0 x1 x2 x3 x4 x5 x6 x7 x8 x9 x10 x11 x12 x13) 14) := by
  unfold k0_pay208; rw [v205 x0 x1 x2 x3 x4 x5 x6 x7 x8 x9 x10 x11 x12 x13, v206 x0 x1 x2 x3 x4 x5 x6 x7 x8 x9 x10 x11 x12 x13]; rfl
theorem v209 : k0_pay209 x0 x1 x2 x3 x4 x5 x6 x7 x8 x9 x10 x11 x12 x13 = Ocr.row (Ocr.rest (so x0 x1 x2 x3 x4 x5 x6 x7 x8 x9 x10 x11 x12 x13) 15) := by
  unfold k0_pay209; rw [v205 x0 x1 x2 x3 x4 x5 x6 x7 x8 x9 x10 x11 x12 x13, v206 x0 x1 x2 x3 x4 x5 x6 x7 x8 x9 x10 x11 x12 x13]; rfl
theorem v210 : k0_pay210 x0 x1 x2 x3 x4 x5 x6 x7 x8 x9 x10 x11 x12 x13 = (Ocr.rest (so x0 x1 x2 x3 x4 x5 x6 x7 x8 x9 x10 x11 x12 x13) 16) := by
  unfold k0_pay210; rw [v205 x0 x1 x2 x3 x4 x5 x6 x7 x8 x9 x10 x11 x12 x13, v206 x0 x1 x2 x3 x4 x5 x6 x7 x8 x9 x10 x11 x12 x13]; rfl
theorem v211 : k0_pay211 x0 x1 x2 x3 x4 x5 x6 x7 x8 x9 x10 x11 x12 x13 = select (cmpf .oeq (Ocr.rest (so x0 x1 x2 x3 x4 x5 x6 x7 x8 x9 x10 x11 x12 x13) 16) (Ocr.top (Ocr.rest (so x0 x1 x2 x3 x4 x5 x6 x7 x8 x9 x10 x11 x12 x13) 16))) Ocr.lanes (broadcast S1x2048 2048#32) := by
  unfold k0_pay211; rw [v205 x0 x1 x2 x3 x4 x5 x6 x7 x8 x9 x10 x11 x12 x13, v206 x0 x1 x2 x3 x4 x5 x6 x7 x8 x9 x10 x11 x12 x13]; rfl
theorem v212 : k0_pay212 x0 x1 x2 x3 x4 x5 x6 x7 x8 x9 x10 x11 x12 x13 = Ocr.row (Ocr.rest (so x0 x1 x2 x3 x4 x5 x6 x7 x8 x9 x10 x11 x12 x13) 16) := by
  unfold k0_pay212; rw [v211 x0 x1 x2 x3 x4 x5 x6 x7 x8 x9 x10 x11 x12 x13]; rfl
theorem v213 : k0_pay213 x0 x1 x2 x3 x4 x5 x6 x7 x8 x9 x10 x11 x12 x13 = Ocr.row (Ocr.rest (so x0 x1 x2 x3 x4 x5 x6 x7 x8 x9 x10 x11 x12 x13) 17) := by
  unfold k0_pay213; rw [v211 x0 x1 x2 x3 x4 x5 x6 x7 x8 x9 x10 x11 x12 x13, v210 x0 x1 x2 x3 x4 x5 x6 x7 x8 x9 x10 x11 x12 x13]; rfl
theorem v214 : k0_pay214 x0 x1 x2 x3 x4 x5 x6 x7 x8 x9 x10 x11 x12 x13 = Ocr.row (Ocr.rest (so x0 x1 x2 x3 x4 x5 x6 x7 x8 x9 x10 x11 x12 x13) 18) := by
  unfold k0_pay214; rw [v211 x0 x1 x2 x3 x4 x5 x6 x7 x8 x9 x10 x11 x12 x13, v210 x0 x1 x2 x3 x4 x5 x6 x7 x8 x9 x10 x11 x12 x13]; rfl
theorem v215 : k0_pay215 x0 x1 x2 x3 x4 x5 x6 x7 x8 x9 x10 x11 x12 x13 = (Ocr.rest (so x0 x1 x2 x3 x4 x5 x6 x7 x8 x9 x10 x11 x12 x13) 19) := by
  unfold k0_pay215; rw [v211 x0 x1 x2 x3 x4 x5 x6 x7 x8 x9 x10 x11 x12 x13, v210 x0 x1 x2 x3 x4 x5 x6 x7 x8 x9 x10 x11 x12 x13]; rfl
theorem v216 : k0_pay216 x0 x1 x2 x3 x4 x5 x6 x7 x8 x9 x10 x11 x12 x13 = Ocr.at_ (Ocr.pos (Ocr.rest (so x0 x1 x2 x3 x4 x5 x6 x7 x8 x9 x10 x11 x12 x13) 19)) := by
  unfold k0_pay216; rw [v211 x0 x1 x2 x3 x4 x5 x6 x7 x8 x9 x10 x11 x12 x13, v210 x0 x1 x2 x3 x4 x5 x6 x7 x8 x9 x10 x11 x12 x13]; rfl
theorem v217 : k0_pay217 x0 x1 x2 x3 x4 x5 x6 x7 x8 x9 x10 x11 x12 x13 = Ocr.row (Ocr.rest (so x0 x1 x2 x3 x4 x5 x6 x7 x8 x9 x10 x11 x12 x13) 19) := by
  unfold k0_pay217; rw [v211 x0 x1 x2 x3 x4 x5 x6 x7 x8 x9 x10 x11 x12 x13, v210 x0 x1 x2 x3 x4 x5 x6 x7 x8 x9 x10 x11 x12 x13]; rfl
theorem v218 : k0_pay218 x0 x1 x2 x3 x4 x5 x6 x7 x8 x9 x10 x11 x12 x13 = Ocr.row (Ocr.rest (so x0 x1 x2 x3 x4 x5 x6 x7 x8 x9 x10 x11 x12 x13) 20) := by
  unfold k0_pay218; rw [v216 x0 x1 x2 x3 x4 x5 x6 x7 x8 x9 x10 x11 x12 x13, v215 x0 x1 x2 x3 x4 x5 x6 x7 x8 x9 x10 x11 x12 x13]; rfl
theorem v219 : k0_pay219 x0 x1 x2 x3 x4 x5 x6 x7 x8 x9 x10 x11 x12 x13 = Ocr.row (Ocr.rest (so x0 x1 x2 x3 x4 x5 x6 x7 x8 x9 x10 x11 x12 x13) 21) := by
  unfold k0_pay219; rw [v216 x0 x1 x2 x3 x4 x5 x6 x7 x8 x9 x10 x11 x12 x13, v215 x0 x1 x2 x3 x4 x5 x6 x7 x8 x9 x10 x11 x12 x13]; rfl
theorem v220 : k0_pay220 x0 x1 x2 x3 x4 x5 x6 x7 x8 x9 x10 x11 x12 x13 = Ocr.row (Ocr.rest (so x0 x1 x2 x3 x4 x5 x6 x7 x8 x9 x10 x11 x12 x13) 22) := by
  unfold k0_pay220; rw [v216 x0 x1 x2 x3 x4 x5 x6 x7 x8 x9 x10 x11 x12 x13, v215 x0 x1 x2 x3 x4 x5 x6 x7 x8 x9 x10 x11 x12 x13]; rfl
theorem v221 : k0_pay221 x0 x1 x2 x3 x4 x5 x6 x7 x8 x9 x10 x11 x12 x13 = (Ocr.rest (so x0 x1 x2 x3 x4 x5 x6 x7 x8 x9 x10 x11 x12 x13) 23) := by
  unfold k0_pay221; rw [v216 x0 x1 x2 x3 x4 x5 x6 x7 x8 x9 x10 x11 x12 x13, v215 x0 x1 x2 x3 x4 x5 x6 x7 x8 x9 x10 x11 x12 x13]; rfl
theorem v222 : k0_pay222 x0 x1 x2 x3 x4 x5 x6 x7 x8 x9 x10 x11 x12 x13 = multiReduction .maximumf [1] S1 (Ocr.rest (so x0 x1 x2 x3 x4 x5 x6 x7 x8 x9 x10 x11 x12 x13) 23) 0xFF800000#32 reduces_S1x2048_S1 (.inl rfl) rfl := by
  unfold k0_pay222; rw [v216 x0 x1 x2 x3 x4 x5 x6 x7 x8 x9 x10 x11 x12 x13, v215 x0 x1 x2 x3 x4 x5 x6 x7 x8 x9 x10 x11 x12 x13]; rfl
theorem v223 : k0_pay223 x0 x1 x2 x3 x4 x5 x6 x7 x8 x9 x10 x11 x12 x13 = Ocr.row (Ocr.rest (so x0 x1 x2 x3 x4 x5 x6 x7 x8 x9 x10 x11 x12 x13) 23) := by
  unfold k0_pay223; rw [v221 x0 x1 x2 x3 x4 x5 x6 x7 x8 x9 x10 x11 x12 x13, v222 x0 x1 x2 x3 x4 x5 x6 x7 x8 x9 x10 x11 x12 x13]; rfl
theorem v224 : k0_pay224 x0 x1 x2 x3 x4 x5 x6 x7 x8 x9 x10 x11 x12 x13 = Ocr.row (Ocr.rest (so x0 x1 x2 x3 x4 x5 x6 x7 x8 x9 x10 x11 x12 x13) 24) := by
  unfold k0_pay224; rw [v221 x0 x1 x2 x3 x4 x5 x6 x7 x8 x9 x10 x11 x12 x13, v222 x0 x1 x2 x3 x4 x5 x6 x7 x8 x9 x10 x11 x12 x13]; rfl
theorem v225 : k0_pay225 x0 x1 x2 x3 x4 x5 x6 x7 x8 x9 x10 x11 x12 x13 = Ocr.row (Ocr.rest (so x0 x1 x2 x3 x4 x5 x6 x7 x8 x9 x10 x11 x12 x13) 25) := by
  unfold k0_pay225; rw [v221 x0 x1 x2 x3 x4 x5 x6 x7 x8 x9 x10 x11 x12 x13, v222 x0 x1 x2 x3 x4 x5 x6 x7 x8 x9 x10 x11 x12 x13]; rfl
theorem v226 : k0_pay226 x0 x1 x2 x3 x4 x5 x6 x7 x8 x9 x10 x11 x12 x13 = (Ocr.rest (so x0 x1 x2 x3 x4 x5 x6 x7 x8 x9 x10 x11 x12 x13) 26) := by
  unfold k0_pay226; rw [v221 x0 x1 x2 x3 x4 x5 x6 x7 x8 x9 x10 x11 x12 x13, v222 x0 x1 x2 x3 x4 x5 x6 x7 x8 x9 x10 x11 x12 x13]; rfl
theorem v227 : k0_pay227 x0 x1 x2 x3 x4 x5 x6 x7 x8 x9 x10 x11 x12 x13 = select (cmpf .oeq (Ocr.rest (so x0 x1 x2 x3 x4 x5 x6 x7 x8 x9 x10 x11 x12 x13) 26) (Ocr.top (Ocr.rest (so x0 x1 x2 x3 x4 x5 x6 x7 x8 x9 x10 x11 x12 x13) 26))) Ocr.lanes (broadcast S1x2048 2048#32) := by
  unfold k0_pay227; rw [v221 x0 x1 x2 x3 x4 x5 x6 x7 x8 x9 x10 x11 x12 x13, v222 x0 x1 x2 x3 x4 x5 x6 x7 x8 x9 x10 x11 x12 x13]; rfl
theorem v228 : k0_pay228 x0 x1 x2 x3 x4 x5 x6 x7 x8 x9 x10 x11 x12 x13 = Ocr.row (Ocr.rest (so x0 x1 x2 x3 x4 x5 x6 x7 x8 x9 x10 x11 x12 x13) 26) := by
  unfold k0_pay228; rw [v227 x0 x1 x2 x3 x4 x5 x6 x7 x8 x9 x10 x11 x12 x13]; rfl
theorem v229 : k0_pay229 x0 x1 x2 x3 x4 x5 x6 x7 x8 x9 x10 x11 x12 x13 = Ocr.row (Ocr.rest (so x0 x1 x2 x3 x4 x5 x6 x7 x8 x9 x10 x11 x12 x13) 27) := by
  unfold k0_pay229; rw [v227 x0 x1 x2 x3 x4 x5 x6 x7 x8 x9 x10 x11 x12 x13, v226 x0 x1 x2 x3 x4 x5 x6 x7 x8 x9 x10 x11 x12 x13]; rfl
theorem v230 : k0_pay230 x0 x1 x2 x3 x4 x5 x6 x7 x8 x9 x10 x11 x12 x13 = Ocr.row (Ocr.rest (so x0 x1 x2 x3 x4 x5 x6 x7 x8 x9 x10 x11 x12 x13) 28) := by
  unfold k0_pay230; rw [v227 x0 x1 x2 x3 x4 x5 x6 x7 x8 x9 x10 x11 x12 x13, v226 x0 x1 x2 x3 x4 x5 x6 x7 x8 x9 x10 x11 x12 x13]; rfl
theorem v231 : k0_pay231 x0 x1 x2 x3 x4 x5 x6 x7 x8 x9 x10 x11 x12 x13 = (Ocr.rest (so x0 x1 x2 x3 x4 x5 x6 x7 x8 x9 x10 x11 x12 x13) 29) := by
  unfold k0_pay231; rw [v227 x0 x1 x2 x3 x4 x5 x6 x7 x8 x9 x10 x11 x12 x13, v226 x0 x1 x2 x3 x4 x5 x6 x7 x8 x9 x10 x11 x12 x13]; rfl

end Cert.KernelIdeal.Rounds

end
-- ==== Proof.KOut.lean ====
/-
  WHAT THE KERNEL'S BODY PUTS TOGETHER FROM ITS ROUNDS: the stacks of one-hot rows, the row of picked frames and the
  tokens' membership in a picked frame, each as a function of the scores the rounds start from, and read at a position.
-/
module

public import proofs.«01_k».proof.Proof.KChain

@[expose] public section

set_option maxRecDepth 16384

noncomputable section

namespace Cert.KernelIdeal.Rounds

open Idealize.ShloMosaic Cert.KernelIdeal Cert.KernelIdeal.Gen

/-! ## Stacks of one-hot rows -/

/-- Eight rows, stacked. -/
def stack8 (f : Nat → FVec Ideal S1x64 .f32) : FVec Ideal S8x64 .f32 :=
  concatenate S8x64 0 (List.ofFn fun r : Fin 8 => ⟨S1x64, f r.val⟩) concatenates_S1x64_S1x64_S1x64_S1x64_S1x64_S1x64_S1x64_S1x64_S8x64_d0

theorem stack8_at (f : Nat → FVec Ideal S1x64 .f32) (r : Fin 8) (n : Fin 64) : stack8 f (ix2 r n) = f r.val (ix2 0 n) := by
  pointwise [stack8]

/-- Thirty-two rows, stacked. -/
def stack32 (f : Nat → FVec Ideal S1x2048 .f32) : FVec Ideal S32x2048 .f32 :=
  concatenate S32x2048 0 (List.ofFn fun r : Fin 32 => ⟨S1x2048, f r.val⟩)
    concatenates_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S1x2048_S32x2048_d0

theorem stack32_at (f : Nat → FVec Ideal S1x2048 .f32) (r : Fin 32) (j : Fin 2048) : stack32 f (ix2 r j) = f r.val (ix2 0 j) := by
  pointwise [stack32]

/-! ## The picked frames -/

/-- One round's entry of the row of picked frames. -/
def entry (k : BitVec 32) (p : IVec S1x1 32) (g : IVec S1x8 32) : IVec S1x8 32 :=
  select (cmpi .eq (iota .tc S1x8 32 [1] iota_S1x8_d1_w32) (broadcast S1x8 k))
    (broadcastTo S1x8 (shapeCast S1x1 (addi p (broadcast S1x1 1#32)) shapeCasts_S1x1_S1x1) broadcasts_S1x1_S1x8) g

/-- The row of picked frames, counted from one. -/
def found (v : FVec Ideal S1x64 .f32) : IVec S1x8 32 :=
  entry 7#32 (Frame.pos (Frame.rest v 7)) (entry 6#32 (Frame.pos (Frame.rest v 6)) (entry 5#32 (Frame.pos (Frame.rest v 5))
    (entry 4#32 (Frame.pos (Frame.rest v 4)) (entry 3#32 (Frame.pos (Frame.rest v 3)) (entry 2#32 (Frame.pos (Frame.rest v 2))
      (entry 1#32 (Frame.pos (Frame.rest v 1)) (entry 0#32 (Frame.pos (Frame.rest v 0)) (broadcast S1x8 0#32))))))))

theorem entry_at (k : BitVec 32) (p : IVec S1x1 32) (g : IVec S1x8 32) (r : Fin 8) :
    entry k p g (ix2 0 r) = if BitVec.ofNat 32 r.val = k then p (ix2 0 0) + 1#32 else g (ix2 0 r) := by
  pointwise [entry]
  by_cases h : BitVec.ofNat 32 r.val = k
  · subst h; simp [Scalar.select, IntOp.cmpi]; rfl
  · rw [if_neg h]; simp only [Scalar.select, IntOp.cmpi, beq_eq_false_iff_ne.2 h]; rfl

theorem found_at (v : FVec Ideal S1x64 .f32) (r : Fin 8) :
    found v (ix2 0 r) = Frame.pos (Frame.rest v r.val) (ix2 0 0) + 1#32 := by
  unfold found
  simp only [entry_at]
  fin_vals r with hr
  all_goals simp only [hr]; rfl

/-! ## Membership in a picked frame -/

/-- One round's part of the tokens' membership in a picked frame. -/
def also (tid : IVec S1x2048 32) (p : IVec S1x1 32) (h : IVec S1x2048 1) : IVec S1x2048 1 :=
  ori h (cmpi .eq tid (broadcastTo S1x2048 (addi p (broadcast S1x1 1#32)) broadcasts_S1x1_S1x2048))

/-- The tokens that lie in a picked frame. -/
def member (tid : IVec S1x2048 32) (v : FVec Ideal S1x64 .f32) : IVec S1x2048 1 :=
  also tid (Frame.pos (Frame.rest v 7)) (also tid (Frame.pos (Frame.rest v 6)) (also tid (Frame.pos (Frame.rest v 5))
    (also tid (Frame.pos (Frame.rest v 4)) (also tid (Frame.pos (Frame.rest v 3)) (also tid (Frame.pos (Frame.rest v 2))
      (also tid (Frame.pos (Frame.rest v 1)) (also tid (Frame.pos (Frame.rest v 0)) (broadcast S1x2048 0#1))))))))

theorem also_at (tid : IVec S1x2048 32) (p : IVec S1x1 32) (h : IVec S1x2048 1) (j : Fin 2048) :
    also tid p h (ix2 0 j) = if tid (ix2 0 j) = p (ix2 0 0) + 1#32 then 1#1 else h (ix2 0 j) := by
  pointwise [also]
  generalize h (ix2 0 j) = a
  by_cases e : tid (ix2 0 j) = p (ix2 0 0) + 1#32
  · rw [if_pos e, e]
    have : IntOp.cmpi .eq (p (ix2 0 0) + 1#32) (IntOp.addi (p (ix2 0 0)) 1#32) = 1#1 := by
      simp only [IntOp.cmpi, IntOp.addi, beq_self_eq_true]; rfl
    rw [this]; revert a; decide
  · rw [if_neg e]
    have : IntOp.cmpi .eq (tid (ix2 0 j)) (IntOp.addi (p (ix2 0 0)) 1#32) = 0#1 := by
      simp only [IntOp.cmpi, IntOp.addi, beq_eq_false_iff_ne.2 e]; rfl
    rw [this]; revert a; decide

theorem member_at (tid : IVec S1x2048 32) (v : FVec Ideal S1x64 .f32) (j : Fin 2048) :
    member tid v (ix2 0 j)
      = if ∃ r : Fin 8, tid (ix2 0 j) = Frame.pos (Frame.rest v r.val) (ix2 0 0) + 1#32 then 1#1 else 0#1 := by
  unfold member
  simp only [also_at]
  by_cases h : ∃ r : Fin 8, tid (ix2 0 j) = Frame.pos (Frame.rest v r.val) (ix2 0 0) + 1#32
  · rw [if_pos h]
    obtain ⟨r, h⟩ := h
    fin_vals r with hr
    all_goals simp only [hr] at h; simp only [if_pos h, ite_self]
  · rw [if_neg h]
    have e : ∀ r, r < 8 → ¬ tid (ix2 0 j) = Frame.pos (Frame.rest v r) (ix2 0 0) + 1#32 := fun r hr hh => h ⟨⟨r, hr⟩, hh⟩
    rw [if_neg (e 7 (by decide)), if_neg (e 6 (by decide)), if_neg (e 5 (by decide)), if_neg (e 4 (by decide)),
      if_neg (e 3 (by decide)), if_neg (e 2 (by decide)), if_neg (e 1 (by decide)), if_neg (e 0 (by decide))]
    rfl

section

variable (x0 : Vec Ideal S1x32x1024 .f32) (x1 : Vec Ideal S1x32x1 .f32) (x2 : Vec Ideal S1x64x1024 .f32) (x3 : Vec Ideal S1x1x64 .f32) (x4 : Vec Ideal S1x2048x1024 .f32) (x5 : Vec Ideal S1x1x2048 .f32) (x6 : Vec Ideal S1x2048x4 .f32) (x7 : Vec Ideal S1x1x2048 .i32) (x8 : Vec Ideal S1024x1024 .f32) (x9 : Vec Ideal S1x1024 .f32) (x10 : Vec Ideal S1024x1 .f32) (x11 : Vec Ideal S1x1 .f32) (x12 : Vec Ideal S1024x1024 .f32) (x13 : Vec Ideal S1024x1024 .f32)

theorem frame_stack : concatenate S8x64 0 [⟨S1x64, k0_pay167 x0 x1 x2 x3 x4 x5 x6 x7 x8 x9 x10 x11 x12 x13⟩, ⟨S1x64, k0_pay168 x0 x1 x2 x3 x4 x5 x6 x7 x8 x9 x10 x11 x12 x13⟩, ⟨S1x64, k0_pay171 x0 x1 x2 x3 x4 x5 x6 x7 x8 x9 x10 x11 x12 x13⟩, ⟨S1x64, k0_pay172 x0 x1 x2 x3 x4 x5 x6 x7 x8 x9 x10 x11 x12 x13⟩, ⟨S1x64, k0_pay175 x0 x1 x2 x3 x4 x5 x6 x7 x8 x9 x10 x11 x12 x13⟩, ⟨S1x64, k0_pay176 x0 x1 x2 x3 x4 x5 x6 x7 x8 x9 x10 x11 x12 x13⟩, ⟨S1x64, k0_pay178 x0 x1 x2 x3 x4 x5 x6 x7 x8 x9 x10 x11 x12 x13⟩, ⟨S1x64, k0_pay180 x0 x1 x2 x3 x4 x5 x6 x7 x8 x9 x10 x11 x12 x13⟩] concatenates_S1x64_S1x64_S1x64_S1x64_S1x64_S1x64_S1x64_S1x64_S8x64_d0 = stack8 fun r => Frame.row (Frame.rest (sf x0 x1 x2 x3 x4 x5 x6 x7 x8 x9 x10 x11 x12 x13) r) := by
  rw [v167, v168, v171, v172, v175, v176, v178, v180]; rfl

theorem ocr_stack : k0_pay157 (k0_pay185 x0 x1 x2 x3 x4 x5 x6 x7 x8 x9 x10 x11 x12 x13) (k0_pay186 x0 x1 x2 x3 x4 x5 x6 x7 x8 x9 x10 x11 x12 x13) (k0_pay187 x0 x1 x2 x3 x4 x5 x6 x7 x8 x9 x10 x11 x12 x13) (k0_pay188 x0 x1 x2 x3 x4 x5 x6 x7 x8 x9 x10 x11 x12 x13) (k0_pay191 x0 x1 x2 x3 x4 x5 x6 x7 x8 x9 x10 x11 x12 x13) (k0_pay192 x0 x1 x2 x3 x4 x5 x6 x7 x8 x9 x10 x11 x12 x13) (k0_pay193 x0 x1 x2 x3 x4 x5 x6 x7 x8 x9 x10 x11 x12 x13) (k0_pay196 x0 x1 x2 x3 x4 x5 x6 x7 x8 x9 x10 x11 x12 x13) (k0_pay197 x0 x1 x2 x3 x4 x5 x6 x7 x8 x9 x10 x11 x12 x13) (k0_pay198 x0 x1 x2 x3 x4 x5 x6 x7 x8 x9 x10 x11 x12 x13) (k0_pay201 x0 x1 x2 x3 x4 x5 x6 x7 x8 x9 x10 x11 x12 x13) (k0_pay202 x0 x1 x2 x3 x4 x5 x6 x7 x8 x9 x10 x11 x12 x13) (k0_pay203 x0 x1 x2 x3 x4 x5 x6 x7 x8 x9 x10 x11 x12 x13) (k0_pay204 x0 x1 x2 x3 x4 x5 x6 x7 x8 x9 x10 x11 x12 x13) (k0_pay207 x0 x1 x2 x3 x4 x5 x6 x7 x8 x9 x10 x11 x12 x13) (k0_pay208 x0 x1 x2 x3 x4 x5 x6 x7 x8 x9 x10 x11 x12 x13) (k0_pay209 x0 x1 x2 x3 x4 x5 x6 x7 x8 x9 x10 x11 x12 x13) (k0_pay212 x0 x1 x2 x3 x4 x5 x6 x7 x8 x9 x10 x11 x12 x13) (k0_pay213 x0 x1 x2 x3 x4 x5 x6 x7 x8 x9 x10 x11 x12 x13) (k0_pay214 x0 x1 x2 x3 x4 x5 x6 x7 x8 x9 x10 x11 x12 x13) (k0_pay217 x0 x1 x2 x3 x4 x5 x6 x7 x8 x9 x10 x11 x12 x13) (k0_pay218 x0 x1 x2 x3 x4 x5 x6 x7 x8 x9 x10 x11 x12 x13) (k0_pay219 x0 x1 x2 x3 x4 x5 x6 x7 x8 x9 x10 x11 x12 x13) (k0_pay220 x0 x1 x2 x3 x4 x5 x6 x7 x8 x9 x10 x11 x12 x13) (k0_pay223 x0 x1 x2 x3 x4 x5 x6 x7 x8 x9 x10 x11 x12 x13) (k0_pay224 x0 x1 x2 x3 x4 x5 x6 x7 x8 x9 x10 x11 x12 x13) (k0_pay225 x0 x1 x2 x3 x4 x5 x6 x7 x8 x9 x10 x11 x12 x13) (k0_pay228 x0 x1 x2 x3 x4 x5 x6 x7 x8 x9 x10 x11 x12 x13) (k0_pay229 x0 x1 x2 x3 x4 x5 x6 x7 x8 x9 x10 x11 x12 x13) (k0_pay230 x0 x1 x2 x3 x4 x5 x6 x7 x8 x9 x10 x11 x12 x13) (k0_pay231 x0 x1 x2 x3 x4 x5 x6 x7 x8 x9 x10 x11 x12 x13) (k0_pay232 x0 x1 x2 x3 x4 x5 x6 x7 x8 x9 x10 x11 x12 x13) (k0_pay233 x0 x1 x2 x3 x4 x5 x6 x7 x8 x9 x10 x11 x12 x13) = stack32 fun r => Ocr.row (Ocr.rest (so x0 x1 x2 x3 x4 x5 x6 x7 x8 x9 x10 x11 x12 x13) r) := by
  rw [v186, v187, v188, v191, v192, v193, v196, v197, v198, v201, v202, v203, v204, v207, v208, v209, v212, v213, v214, v217, v218, v219, v220, v223, v224, v225, v228, v229, v230]
  unfold k0_pay231 k0_pay232 k0_pay233
  rw [v226, v227]; rfl

theorem found_eq : k0_pay49 (k0_pay161 x0 x1 x2 x3 x4 x5 x6 x7 x8 x9 x10 x11 x12 x13) (k0_pay162 x0 x1 x2 x3 x4 x5 x6 x7 x8 x9 x10 x11 x12 x13) (k0_pay39 (k0_pay161 x0 x1 x2 x3 x4 x5 x6 x7 x8 x9 x10 x11 x12 x13) (k0_pay162 x0 x1 x2 x3 x4 x5 x6 x7 x8 x9 x10 x11 x12 x13) (k0_pay28 (k0_pay161 x0 x1 x2 x3 x4 x5 x6 x7 x8 x9 x10 x11 x12 x13) (k0_pay162 x0 x1 x2 x3 x4 x5 x6 x7 x8 x9 x10 x11 x12 x13) (k0_pay18 (k0_pay164 x0 x1 x2 x3 x4 x5 x6 x7 x8 x9 x10 x11 x12 x13) (k0_pay161 x0 x1 x2 x3 x4 x5 x6 x7 x8 x9 x10 x11 x12 x13) (k0_pay162 x0 x1 x2 x3 x4 x5 x6 x7 x8 x9 x10 x11 x12 x13) k0_pay9 (k0_pay166 x0 x1 x2 x3 x4 x5 x6 x7 x8 x9 x10 x11 x12 x13) k0_pay12 (k0_pay13 (k0_pay160 x0 x1 x2 x3 x4 x5 x6 x7 x8 x9 x10 x11 x12 x13) (View.ld x12 r0_1) (View.ld x2 r0_6) (View.ld x3 r0_7))) (k0_pay169 x0 x1 x2 x3 x4 x5 x6 x7 x8 x9 x10 x11 x12 x13) (k0_pay170 x0 x1 x2 x3 x4 x5 x6 x7 x8 x9 x10 x11 x12 x13) 2#32) (k0_pay173 x0 x1 x2 x3 x4 x5 x6 x7 x8 x9 x10 x11 x12 x13) (k0_pay174 x0 x1 x2 x3 x4 x5 x6 x7 x8 x9 x10 x11 x12 x13) 64#32) (k0_pay177 x0 x1 x2 x3 x4 x5 x6 x7 x8 x9 x10 x11 x12 x13) = found (sf x0 x1 x2 x3 x4 x5 x6 x7 x8 x9 x10 x11 x12 x13) := by
  rw [v166, v169, v170, v173, v174, v177]; rfl

theorem valid_eq : k0_pay182 x0 x1 x2 x3 x4 x5 x6 x7 x8 x9 x10 x11 x12 x13 = mulf (shapeCast S1x2048 (View.ld x5 r0_8) shapeCasts_S1x1x2048_S1x2048)
    (sitofp .f32 (extui 32 (member (k0_pay165 x0 x1 x2 x3 x4 x5 x6 x7 x8 x9 x10 x11 x12 x13) (sf x0 x1 x2 x3 x4 x5 x6 x7 x8 x9 x10 x11 x12 x13)) natLt_1_32)) := by
  unfold k0_pay182 k0_pay179
  rw [v166, v169, v170, v173, v174, v177, v181]; rfl

theorem above_eq : k0_pay184 x0 x1 x2 x3 x4 x5 x6 x7 x8 x9 x10 x11 x12 x13 = cmpf .ogt (k0_pay182 x0 x1 x2 x3 x4 x5 x6 x7 x8 x9 x10 x11 x12 x13) (broadcast S1x2048 (Scalar.ofBits .f32 0x00000000#32)) := rfl

end

end Cert.KernelIdeal.Rounds

end
-- ==== Proof.Spec.lean ====
/-
  WHAT ONE BATCH COMES TO. A batch's arrays as plain functions of their positions, and over them the pooled question,
  the scores of frames and OCR tokens, the picks in order of score, and the six results. Both programs are read down to
  these functions.
-/
module

public import Idealize.ShloMosaic.Lib.Pointwise
public import proofs.«01_k».proof.Proof.TopRounds

@[expose] public section

noncomputable section

namespace Cert.Spec

open Idealize.ShloMosaic Cert.Rounds

/-- The arrays of one batch, with the weights. -/
structure Batch where
  /-- question tokens -/
  q : Fin 32 → Fin 1024 → EReal
  /-- mask of the question tokens -/
  qm : Fin 32 → EReal
  /-- frame features -/
  ff : Fin 64 → Fin 1024 → EReal
  /-- mask of the frames -/
  fm : Fin 64 → EReal
  /-- features of the OCR tokens -/
  of : Fin 2048 → Fin 1024 → EReal
  /-- mask of the OCR tokens -/
  om : Fin 2048 → EReal
  /-- boxes of the OCR tokens -/
  box : Fin 2048 → Fin 4 → EReal
  /-- frame of each OCR token, counted from one -/
  tid : Fin 2048 → BitVec 32
  /-- weight of the question's projection -/
  Wq : Fin 1024 → Fin 1024 → EReal
  /-- its bias -/
  bq : Fin 1024 → EReal
  /-- weight of the attention -/
  w : Fin 1024 → EReal
  /-- its bias -/
  b : EReal
  /-- weight of the frames' scores -/
  Wt : Fin 1024 → Fin 1024 → EReal
  /-- weight of the OCR tokens' scores -/
  Ws : Fin 1024 → Fin 1024 → EReal

/-- One batch of the whole arrays. -/
def ofArrays (x0 : FVec Ideal ⟨3, ![32, 32, 1024]⟩ .f32) (x1 : FVec Ideal ⟨2, ![32, 32]⟩ .f32)
    (x2 : FVec Ideal ⟨3, ![32, 64, 1024]⟩ .f32) (x3 : FVec Ideal ⟨2, ![32, 64]⟩ .f32)
    (x4 : FVec Ideal ⟨3, ![32, 2048, 1024]⟩ .f32) (x5 : FVec Ideal ⟨2, ![32, 2048]⟩ .f32)
    (x6 : FVec Ideal ⟨3, ![32, 2048, 4]⟩ .f32) (x7 : IVec ⟨2, ![32, 2048]⟩ 32)
    (x8 : FVec Ideal ⟨2, ![1024, 1024]⟩ .f32) (x9 x10 : FVec Ideal ⟨1, ![1024]⟩ .f32) (x11 : FVec Ideal ⟨0, ![]⟩ .f32)
    (x12 x13 : FVec Ideal ⟨2, ![1024, 1024]⟩ .f32) (c : Fin 32) : Batch where
  q l k := x0 (ix3 c l k)
  qm l := x1 (ix2 c l)
  ff n d := x2 (ix3 c n d)
  fm n := x3 (ix2 c n)
  of j d := x4 (ix3 c j d)
  om j := x5 (ix2 c j)
  box j k := x6 (ix3 c j k)
  tid j := x7 (ix2 c j)
  Wq k d := x8 (ix2 k d)
  bq d := x9 (ix1 d)
  w d := x10 (ix1 d)
  b := x11 ix0
  Wt k d := x12 (ix2 k d)
  Ws k d := x13 (ix2 k d)

namespace Batch

variable (X : Batch)

/-! ## The pooled question -/

/-- The projected question. -/
def proj (l : Fin 32) (d : Fin 1024) : EReal := (∑ k, X.q l k * X.Wq k d) + X.bq d

/-- The attention's logits. -/
def logit (l : Fin 32) : EReal := (∑ d, X.proj l d * X.w d) + X.b

/-- The softmax's weights, before the division. -/
def ex (l : Fin 32) : EReal := Ideal.exp (X.logit l - Finset.univ.fold max ⊥ X.logit)

/-- The masked softmax. -/
def soft (l : Fin 32) : EReal := Ideal.div (X.ex l) (∑ k, X.ex k) * X.qm l

/-- The masked softmax, normalised anew. -/
def att (l : Fin 32) : EReal := Ideal.div (X.soft l) ((∑ k, X.soft k) + Ideal.ofBits .f32 0x2B8CBCCC#32)

/-- The pooled question. -/
def gq (d : Fin 1024) : EReal := ∑ l, X.att l * X.proj l d

/-- A row's score against the pooled question, under a weight. -/
def score (W : Fin 1024 → Fin 1024 → EReal) (f : Fin 1024 → EReal) : EReal :=
  (∑ d, (∑ k, X.gq k * W k d) * f d) * Ideal.ofBits .f32 0x3D000000#32

/-! ## The frames -/

/-- The masked frame scores. -/
def fsc (n : Fin 64) : EReal := if 0 < X.fm n then X.score X.Wt (X.ff n) else Ideal.ofBits .f32 0xCE6E6B28#32

/-- The frame of rank `r`. -/
def fpick (r : Fin 8) : Fin 64 := pick X.fsc r.val (by omega)

/-- How often a frame was picked, cut to between zero and one. -/
def fsel (n : Fin 64) : EReal := min 1 (max 0 (∑ r, if n = X.fpick r then (1 : EReal) else 0))

/-- The picked frames, counted from one. -/
def gf (r : Fin 8) : BitVec 32 := BitVec.ofNat 32 (X.fpick r).val + 1#32

/-- The mask of the picked frames. -/
def gfm (n : Fin 64) : EReal := X.fsel n * X.fm n

/-- The mask of the other frames. -/
def nfm (n : Fin 64) : EReal := (1 - X.fsel n) * X.fm n

/-! ## The OCR tokens -/

/-- Does the token lie in a picked frame? -/
def Hit (j : Fin 2048) : Prop := ∃ r, X.tid j = X.gf r

instance (j : Fin 2048) : Decidable (X.Hit j) := inferInstanceAs (Decidable (∃ r, X.tid j = X.gf r))

/-- The mask of the tokens in picked frames. -/
def valid (j : Fin 2048) : EReal := X.om j * if X.Hit j then 1 else 0

/-- The masked OCR scores. -/
def osc (j : Fin 2048) : EReal := if 0 < X.valid j then X.score X.Ws (X.of j) else Ideal.ofBits .f32 0xCE6E6B28#32

/-- The token of rank `r`. -/
def opick (r : Fin 32) : Fin 2048 := pick X.osc r.val (by omega)

/-- How often a token was picked, cut to between zero and one. -/
def osel (j : Fin 2048) : EReal := min 1 (max 0 (∑ r, if j = X.opick r then (1 : EReal) else 0))

/-- The boxes of the picked tokens. -/
def gbox (r : Fin 32) (c : Fin 4) : EReal := X.box (X.opick r) c

/-- The mask of the picked tokens. -/
def go (j : Fin 2048) : EReal := X.osel j * X.valid j

/-- The mask of the other tokens. -/
def nom (j : Fin 2048) : EReal := (1 - X.go j) * X.valid j

end Batch

end Cert.Spec

end
-- ==== Proof.KScore.lean ====
/-
  THE KERNEL'S SCORES. The kernel's pooled question and scores, read at a position, are the batch's.
-/
module

public import proofs.«01_k».proof.Proof.Spec
public import proofs.«01_k».proof.Proof.Consts
public import proofs.«01_k».proof.Proof.Gen.KernelIdeal.Skeleton

@[expose] public section

set_option maxRecDepth 16384

noncomputable section

namespace Cert.KernelIdeal.Score

open Idealize.ShloMosaic Cert.KernelIdeal Cert.KernelIdeal.Gen Cert.Spec

variable (x0 : Vec Ideal S1x32x1024 .f32) (x1 : Vec Ideal S1x32x1 .f32) (x2 : Vec Ideal S1x64x1024 .f32) (x3 : Vec Ideal S1x1x64 .f32)
  (x4 : Vec Ideal S1x2048x1024 .f32) (x5 : Vec Ideal S1x1x2048 .f32) (x6 : Vec Ideal S1x2048x4 .f32) (x7 : Vec Ideal S1x1x2048 .i32)
  (x8 : Vec Ideal S1024x1024 .f32) (x9 : Vec Ideal S1x1024 .f32) (x10 : Vec Ideal S1024x1 .f32) (x11 : Vec Ideal S1x1 .f32)
  (x12 x13 : Vec Ideal S1024x1024 .f32)

/-- The batch the kernel's blocks hold. -/
def batch : Batch where
  q l k := x0 (ix3 0 l k)
  qm l := x1 (ix3 0 l 0)
  ff n d := x2 (ix3 0 n d)
  fm n := x3 (ix3 0 0 n)
  of j d := x4 (ix3 0 j d)
  om j := x5 (ix3 0 0 j)
  box j c := x6 (ix3 0 j c)
  tid j := x7 (ix3 0 0 j)
  Wq k d := x8 (ix2 k d)
  bq d := x9 (ix2 0 d)
  w d := x10 (ix2 d 0)
  b := x11 (ix2 0 0)
  Wt k d := x12 (ix2 k d)
  Ws k d := x13 (ix2 k d)

/-- The batch's pooled question. -/
theorem gq_at (d : Fin 1024) :
    k0_pay4 x0 x8 x9 x10 x11 x1 (ix2 0 d) = (batch x0 x1 x2 x3 x4 x5 x6 x7 x8 x9 x10 x11 x12 x13).gq d := by
  pointwise [k0_pay4]
  simp only [Consts.negInf]
  rfl

/-- Its frame scores. -/
theorem fsc_at (n : Fin 64) :
    k0_pay7 (k0_pay4 x0 x8 x9 x10 x11 x1) x12 x2 x3 (ix2 0 n) = (batch x0 x1 x2 x3 x4 x5 x6 x7 x8 x9 x10 x11 x12 x13).fsc n := by
  generalize hg : k0_pay4 x0 x8 x9 x10 x11 x1 = g
  pointwise [k0_pay7, k0_pay6]
  simp only [← hg, gq_at x0 x1 x2 x3 x4 x5 x6 x7 x8 x9 x10 x11 x12 x13]
  rfl

/-- Its OCR scores, unmasked. -/
theorem raw_at (j : Fin 2048) :
    k0_pay57 (k0_pay5 (k0_pay4 x0 x8 x9 x10 x11 x1) x13) x4 (ix2 0 j)
      = (batch x0 x1 x2 x3 x4 x5 x6 x7 x8 x9 x10 x11 x12 x13).score (fun k d => x13 (ix2 k d)) fun d => x4 (ix3 0 j d) := by
  generalize hg : k0_pay4 x0 x8 x9 x10 x11 x1 = g
  pointwise [k0_pay57, k0_pay5]
  simp only [← hg, gq_at x0 x1 x2 x3 x4 x5 x6 x7 x8 x9 x10 x11 x12 x13]
  rfl

end Cert.KernelIdeal.Score

end
-- ==== Proof.KPoint.lean ====
/-
  WHAT THE KERNEL'S BODY STORES, READ AT A POSITION: each of the six blocks is the batch's result there, once the scores
  are above the filler the rounds put in place of a picked one.
-/
module

public import proofs.«01_k».proof.Proof.KOut
public import proofs.«01_k».proof.Proof.KScore

@[expose] public section

set_option maxRecDepth 16384

noncomputable section

namespace Cert.KernelIdeal.Point

open Idealize.ShloMosaic Cert.KernelIdeal Cert.KernelIdeal.Gen Cert.KernelIdeal.Rounds Cert.KernelIdeal.Score Cert.Rounds

/-- Three offsets of zero. -/
theorem off3 : (![0, 0, 0] : Fin 3 → Nat) = fun _ => 0 := by decide

/-- Two offsets of zero. -/
theorem off2 : (![0, 0] : Fin 2 → Nat) = fun _ => 0 := by decide

/-! A block loaded whole is the block. -/

theorem ld0 (X : Vec Ideal S1x32x1024 .f32) : View.ld X r0_0 = X := View.ld_unit_zero off3 _ X
theorem ld1 (X : Vec Ideal S1024x1024 .f32) : View.ld X r0_1 = X := View.ld_unit_zero off2 _ X
theorem ld2 (X : Vec Ideal S1x1024 .f32) : View.ld X r0_2 = X := View.ld_unit_zero off2 _ X
theorem ld3 (X : Vec Ideal S1024x1 .f32) : View.ld X r0_3 = X := View.ld_unit_zero off2 _ X
theorem ld4 (X : Vec Ideal S1x1 .f32) : View.ld X r0_4 = X := View.ld_unit_zero off2 _ X
theorem ld5 (X : Vec Ideal S1x32x1 .f32) : View.ld X r0_5 = X := View.ld_unit_zero off3 _ X
theorem ld6 (X : Vec Ideal S1x64x1024 .f32) : View.ld X r0_6 = X := View.ld_unit_zero off3 _ X
theorem ld7 (X : Vec Ideal S1x1x64 .f32) : View.ld X r0_7 = X := View.ld_unit_zero off3 _ X
theorem ld8 (X : Vec Ideal S1x1x2048 .f32) : View.ld X r0_8 = X := View.ld_unit_zero off3 _ X
theorem ld10 (X : Vec Ideal S1x2048x1024 .f32) : View.ld X r0_10 = X := View.ld_unit_zero off3 _ X
theorem ld11 (X : Vec Ideal S1x2048x4 .f32) : View.ld X r0_11 = X := View.ld_unit_zero off3 _ X
theorem ld8i (X : Vec Ideal S1x1x2048 .i32) : View.ld X r0_8 = X := View.ld_unit_zero off3 _ X

variable (x0 : Vec Ideal S1x32x1024 .f32) (x1 : Vec Ideal S1x32x1 .f32) (x2 : Vec Ideal S1x64x1024 .f32) (x3 : Vec Ideal S1x1x64 .f32) (x4 : Vec Ideal S1x2048x1024 .f32) (x5 : Vec Ideal S1x1x2048 .f32) (x6 : Vec Ideal S1x2048x4 .f32) (x7 : Vec Ideal S1x1x2048 .i32) (x8 : Vec Ideal S1024x1024 .f32) (x9 : Vec Ideal S1x1024 .f32) (x10 : Vec Ideal S1024x1 .f32) (x11 : Vec Ideal S1x1 .f32) (x12 : Vec Ideal S1024x1024 .f32) (x13 : Vec Ideal S1024x1024 .f32)

/-- The batch of the blocks. -/
abbrev bt : Spec.Batch := batch x0 x1 x2 x3 x4 x5 x6 x7 x8 x9 x10 x11 x12 x13

theorem sf_lane : Frame.lane (sf x0 x1 x2 x3 x4 x5 x6 x7 x8 x9 x10 x11 x12 x13) = (bt x0 x1 x2 x3 x4 x5 x6 x7 x8 x9 x10 x11 x12 x13).fsc := by
  funext n
  unfold Frame.lane sf k0_pay164 k0_pay160
  rw [ld0, ld1, ld1, ld2, ld3, ld4, ld5, ld6, ld7]
  exact fsc_at x0 x1 x2 x3 x4 x5 x6 x7 x8 x9 x10 x11 x12 x13 n

variable (hf : ∀ n, ⊥ < (bt x0 x1 x2 x3 x4 x5 x6 x7 x8 x9 x10 x11 x12 x13).fsc n)

include hf

theorem fpos (r : Fin 8) (i : S1x1.Idx) :
    Frame.pos (Frame.rest (sf x0 x1 x2 x3 x4 x5 x6 x7 x8 x9 x10 x11 x12 x13) r.val) i = BitVec.ofNat 32 ((bt x0 x1 x2 x3 x4 x5 x6 x7 x8 x9 x10 x11 x12 x13).fpick r).val := by
  have h : ∀ n, ⊥ < Frame.lane (sf x0 x1 x2 x3 x4 x5 x6 x7 x8 x9 x10 x11 x12 x13) n := by rw [sf_lane]; exact hf
  rw [Frame.pos_rest _ h r.val (by omega)]
  unfold Spec.Batch.fpick
  simp only [sf_lane]

theorem frow (r : Fin 8) (n : Fin 64) :
    Frame.row (Frame.rest (sf x0 x1 x2 x3 x4 x5 x6 x7 x8 x9 x10 x11 x12 x13) r.val) (ix2 0 n) = if n = (bt x0 x1 x2 x3 x4 x5 x6 x7 x8 x9 x10 x11 x12 x13).fpick r then 1 else 0 := by
  have h : ∀ n, ⊥ < Frame.lane (sf x0 x1 x2 x3 x4 x5 x6 x7 x8 x9 x10 x11 x12 x13) n := by rw [sf_lane]; exact hf
  rw [Frame.row_rest _ h r.val (by omega)]
  unfold Spec.Batch.fpick
  simp only [sf_lane]

theorem found_gf (r : Fin 8) : found (sf x0 x1 x2 x3 x4 x5 x6 x7 x8 x9 x10 x11 x12 x13) (ix2 0 r) = (bt x0 x1 x2 x3 x4 x5 x6 x7 x8 x9 x10 x11 x12 x13).gf r := by
  rw [found_at, fpos x0 x1 x2 x3 x4 x5 x6 x7 x8 x9 x10 x11 x12 x13 hf]; rfl

/-- The first block: the picked frames. -/
theorem out14 (r : Fin 8) : out0_14 x0 x1 x2 x3 x4 x5 x6 x7 x8 x9 x10 x11 x12 x13 (ix3 0 0 r) = (bt x0 x1 x2 x3 x4 x5 x6 x7 x8 x9 x10 x11 x12 x13).gf r := by
  unfold out0_14
  rw [View.canon_unit_zero off3, found_eq]
  pointwise [k0_pay53]
  exact found_gf x0 x1 x2 x3 x4 x5 x6 x7 x8 x9 x10 x11 x12 x13 hf r

theorem stack8_row (r : Fin 8) (n : Fin 64) :
    stack8 (fun r => Frame.row (Frame.rest (sf x0 x1 x2 x3 x4 x5 x6 x7 x8 x9 x10 x11 x12 x13) r)) (ix2 r n) = if n = (bt x0 x1 x2 x3 x4 x5 x6 x7 x8 x9 x10 x11 x12 x13).fpick r then 1 else 0 := by
  rw [stack8_at, frow x0 x1 x2 x3 x4 x5 x6 x7 x8 x9 x10 x11 x12 x13 hf]

/-- How often each frame was picked. -/
theorem fsel_at (n : Fin 64) :
    k0_pay52 (k0_pay167 x0 x1 x2 x3 x4 x5 x6 x7 x8 x9 x10 x11 x12 x13) (k0_pay168 x0 x1 x2 x3 x4 x5 x6 x7 x8 x9 x10 x11 x12 x13) (k0_pay171 x0 x1 x2 x3 x4 x5 x6 x7 x8 x9 x10 x11 x12 x13) (k0_pay172 x0 x1 x2 x3 x4 x5 x6 x7 x8 x9 x10 x11 x12 x13) (k0_pay175 x0 x1 x2 x3 x4 x5 x6 x7 x8 x9 x10 x11 x12 x13) (k0_pay176 x0 x1 x2 x3 x4 x5 x6 x7 x8 x9 x10 x11 x12 x13) (k0_pay178 x0 x1 x2 x3 x4 x5 x6 x7 x8 x9 x10 x11 x12 x13)
      (k0_pay180 x0 x1 x2 x3 x4 x5 x6 x7 x8 x9 x10 x11 x12 x13) (ix2 0 n) = (bt x0 x1 x2 x3 x4 x5 x6 x7 x8 x9 x10 x11 x12 x13).fsel n := by
  unfold k0_pay52
  rw [frame_stack]
  pointwise []
  simp only [stack8_row x0 x1 x2 x3 x4 x5 x6 x7 x8 x9 x10 x11 x12 x13 hf]
  rfl

/-- The third block: the mask of the picked frames. -/
theorem out16 (n : Fin 64) : out0_16 x0 x1 x2 x3 x4 x5 x6 x7 x8 x9 x10 x11 x12 x13 (ix3 0 0 n) = (bt x0 x1 x2 x3 x4 x5 x6 x7 x8 x9 x10 x11 x12 x13).gfm n := by
  unfold out0_16
  rw [View.canon_unit_zero off3]
  pointwise [k0_pay54]
  rw [fsel_at x0 x1 x2 x3 x4 x5 x6 x7 x8 x9 x10 x11 x12 x13 hf]
  unfold k0_pay163 k0_pay6
  rw [ld7]
  pointwise []
  rfl

/-- The fourth block: the mask of the other frames. -/
theorem out17 (n : Fin 64) : out0_17 x0 x1 x2 x3 x4 x5 x6 x7 x8 x9 x10 x11 x12 x13 (ix3 0 0 n) = (bt x0 x1 x2 x3 x4 x5 x6 x7 x8 x9 x10 x11 x12 x13).nfm n := by
  unfold out0_17
  rw [View.canon_unit_zero off3]
  pointwise [k0_pay55]
  rw [fsel_at x0 x1 x2 x3 x4 x5 x6 x7 x8 x9 x10 x11 x12 x13 hf]
  unfold k0_pay163 k0_pay6
  rw [ld7]
  pointwise []
  rfl

/-- The tokens in picked frames. -/
theorem member_hit (j : Fin 2048) : member (k0_pay165 x0 x1 x2 x3 x4 x5 x6 x7 x8 x9 x10 x11 x12 x13) (sf x0 x1 x2 x3 x4 x5 x6 x7 x8 x9 x10 x11 x12 x13) (ix2 0 j) = if (bt x0 x1 x2 x3 x4 x5 x6 x7 x8 x9 x10 x11 x12 x13).Hit j then 1#1 else 0#1 := by
  rw [member_at]
  have e : ∀ r : Fin 8, Frame.pos (Frame.rest (sf x0 x1 x2 x3 x4 x5 x6 x7 x8 x9 x10 x11 x12 x13) r.val) (ix2 0 0) + 1#32 = (bt x0 x1 x2 x3 x4 x5 x6 x7 x8 x9 x10 x11 x12 x13).gf r := fun r => by
    rw [fpos x0 x1 x2 x3 x4 x5 x6 x7 x8 x9 x10 x11 x12 x13 hf]; rfl
  have t : k0_pay165 x0 x1 x2 x3 x4 x5 x6 x7 x8 x9 x10 x11 x12 x13 (ix2 0 j) = (bt x0 x1 x2 x3 x4 x5 x6 x7 x8 x9 x10 x11 x12 x13).tid j := by
    unfold k0_pay165
    rw [ld8i]
    pointwise [k0_pay8]
    rfl
  simp only [e, t]
  rfl

theorem valid_at (j : Fin 2048) : k0_pay182 x0 x1 x2 x3 x4 x5 x6 x7 x8 x9 x10 x11 x12 x13 (ix2 0 j) = (bt x0 x1 x2 x3 x4 x5 x6 x7 x8 x9 x10 x11 x12 x13).valid j := by
  rw [valid_eq, ld8]
  pointwise []
  rw [member_hit x0 x1 x2 x3 x4 x5 x6 x7 x8 x9 x10 x11 x12 x13 hf]
  unfold Spec.Batch.valid
  refine congrArg _ ?_
  exact bit_float _

theorem so_lane : Ocr.lane (so x0 x1 x2 x3 x4 x5 x6 x7 x8 x9 x10 x11 x12 x13) = (bt x0 x1 x2 x3 x4 x5 x6 x7 x8 x9 x10 x11 x12 x13).osc := by
  funext j
  unfold Ocr.lane so
  rw [above_eq]
  have e : k0_pay183 x0 x1 x2 x3 x4 x5 x6 x7 x8 x9 x10 x11 x12 x13 (ix2 0 j) = (bt x0 x1 x2 x3 x4 x5 x6 x7 x8 x9 x10 x11 x12 x13).score (bt x0 x1 x2 x3 x4 x5 x6 x7 x8 x9 x10 x11 x12 x13).Ws ((bt x0 x1 x2 x3 x4 x5 x6 x7 x8 x9 x10 x11 x12 x13).of j) := by
    unfold k0_pay183 k0_pay160
    rw [ld0, ld1, ld1, ld2, ld3, ld4, ld5, ld10]
    exact raw_at x0 x1 x2 x3 x4 x5 x6 x7 x8 x9 x10 x11 x12 x13 j
  pointwise [k0_pay59]
  rw [valid_at x0 x1 x2 x3 x4 x5 x6 x7 x8 x9 x10 x11 x12 x13 hf, e]
  rfl

variable (ho : ∀ j, ⊥ < (bt x0 x1 x2 x3 x4 x5 x6 x7 x8 x9 x10 x11 x12 x13).osc j)

include ho

theorem orow (r : Fin 32) (j : Fin 2048) :
    Ocr.row (Ocr.rest (so x0 x1 x2 x3 x4 x5 x6 x7 x8 x9 x10 x11 x12 x13) r.val) (ix2 0 j) = if j = (bt x0 x1 x2 x3 x4 x5 x6 x7 x8 x9 x10 x11 x12 x13).opick r then 1 else 0 := by
  have h : ∀ j, ⊥ < Ocr.lane (so x0 x1 x2 x3 x4 x5 x6 x7 x8 x9 x10 x11 x12 x13) j := by rw [so_lane x0 x1 x2 x3 x4 x5 x6 x7 x8 x9 x10 x11 x12 x13 hf]; exact ho
  rw [Ocr.row_rest _ h r.val (by omega)]
  unfold Spec.Batch.opick
  simp only [so_lane x0 x1 x2 x3 x4 x5 x6 x7 x8 x9 x10 x11 x12 x13 hf]

theorem stack32_row (r : Fin 32) (j : Fin 2048) :
    stack32 (fun r => Ocr.row (Ocr.rest (so x0 x1 x2 x3 x4 x5 x6 x7 x8 x9 x10 x11 x12 x13) r)) (ix2 r j) = if j = (bt x0 x1 x2 x3 x4 x5 x6 x7 x8 x9 x10 x11 x12 x13).opick r then 1 else 0 := by
  rw [stack32_at, orow x0 x1 x2 x3 x4 x5 x6 x7 x8 x9 x10 x11 x12 x13 hf ho]

/-- How often each token was picked. -/
theorem osel_at (j : Fin 2048) : k0_pay234 x0 x1 x2 x3 x4 x5 x6 x7 x8 x9 x10 x11 x12 x13 (ix2 0 j) = (bt x0 x1 x2 x3 x4 x5 x6 x7 x8 x9 x10 x11 x12 x13).osel j := by
  unfold k0_pay234 k0_pay158
  rw [ocr_stack]
  pointwise []
  simp only [stack32_row x0 x1 x2 x3 x4 x5 x6 x7 x8 x9 x10 x11 x12 x13 hf ho]
  rfl

/-- The second block: the boxes of the picked tokens. -/
theorem out15 (r : Fin 32) (c : Fin 4) : out0_15 x0 x1 x2 x3 x4 x5 x6 x7 x8 x9 x10 x11 x12 x13 (ix3 0 r c) = (bt x0 x1 x2 x3 x4 x5 x6 x7 x8 x9 x10 x11 x12 x13).gbox r c := by
  unfold out0_15
  rw [View.canon_unit_zero off3, ld11]
  unfold k0_pay159
  rw [ocr_stack]
  pointwise []
  simp only [stack32_row x0 x1 x2 x3 x4 x5 x6 x7 x8 x9 x10 x11 x12 x13 hf ho]
  simp [Spec.Batch.gbox]
  rfl

/-- The fifth block: the mask of the picked tokens. -/
theorem out18 (j : Fin 2048) : out0_18 x0 x1 x2 x3 x4 x5 x6 x7 x8 x9 x10 x11 x12 x13 (ix3 0 0 j) = (bt x0 x1 x2 x3 x4 x5 x6 x7 x8 x9 x10 x11 x12 x13).go j := by
  unfold out0_18
  rw [View.canon_unit_zero off3]
  pointwise [k0_pay2, k0_pay1]
  rw [osel_at x0 x1 x2 x3 x4 x5 x6 x7 x8 x9 x10 x11 x12 x13 hf ho, valid_at x0 x1 x2 x3 x4 x5 x6 x7 x8 x9 x10 x11 x12 x13 hf]
  rfl

/-- The sixth block: the mask of the other tokens. -/
theorem out19 (j : Fin 2048) : out0_19 x0 x1 x2 x3 x4 x5 x6 x7 x8 x9 x10 x11 x12 x13 (ix3 0 0 j) = (bt x0 x1 x2 x3 x4 x5 x6 x7 x8 x9 x10 x11 x12 x13).nom j := by
  unfold out0_19
  rw [View.canon_unit_zero off3]
  pointwise [k0_pay3, k0_pay1]
  rw [osel_at x0 x1 x2 x3 x4 x5 x6 x7 x8 x9 x10 x11 x12 x13 hf ho, valid_at x0 x1 x2 x3 x4 x5 x6 x7 x8 x9 x10 x11 x12 x13 hf]
  rfl

end Cert.KernelIdeal.Point

end
-- ==== Proof.KValue.lean ====
/-
  THE KERNEL'S RESULT ARRAYS. Grid point `t` reads batch `t` of every array and writes batch `t` of every result, so that
  each result array holds the batches' results, one batch after another.
-/
module

public import proofs.«01_k».proof.Proof.KPoint
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The windows' index maps: the batched ones follow the grid, the weights stay. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![t.val, 0, 0] ∧ win0_15.index t = ![t.val, 0, 0] ∧ win0_16.index t = ![t.val, 0, 0]
    ∧ win0_17.index t = ![t.val, 0, 0] ∧ win0_18.index t = ![t.val, 0, 0] ∧ win0_19.index t = ![t.val, 0, 0] :=
  (by decide +kernel : ∀ t : Fin grid0.N, _)

/-- The grid has a point for each batch. -/
theorem N_eq : cfg0.N = 32 := by decide +kernel

/-- A batch of the argument arrays. -/
def arg (c : Dev nD) (b : Fin 32) : Spec.Batch :=
  Spec.ofArrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) b

/-! The operands reshaped before the region. -/

theorem V_v0 (c : Dev nD) : (show Vec Ideal S32x32x1 .f32 from V m c main_v0)
    = shapeCast S32x32x1 (show Vec Ideal S32x32 .f32 from m ((c : Thread nD τ).loc main_arg1)) shapeCasts_S32x32_S32x32x1 := by
  unfold V V0
  simp only [List.flatten_cons, List.flatten_nil, List.append_nil, List.nil_append]
  after_results
  rfl

theorem V_v1 (c : Dev nD) : (show Vec Ideal S32x1x64 .f32 from V m c main_v1)
    = shapeCast S32x1x64 (show Vec Ideal S32x64 .f32 from m ((c : Thread nD τ).loc main_arg3)) shapeCasts_S32x64_S32x1x64 := by
  unfold V V0
  simp only [List.flatten_cons, List.flatten_nil, List.append_nil, List.nil_append]
  after_results
  rfl

theorem V_v2 (c : Dev nD) : (show Vec Ideal S32x1x2048 .f32 from V m c main_v2)
    = shapeCast S32x1x2048 (show Vec Ideal S32x2048 .f32 from m ((c : Thread nD τ).loc main_arg5)) shapeCasts_S32x2048_S32x1x2048 := by
  unfold V V0
  simp only [List.flatten_cons, List.flatten_nil, List.append_nil, List.nil_append]
  after_results
  rfl

theorem V_v3 (c : Dev nD) : (show Vec Ideal S32x1x2048 .i32 from V m c main_v3)
    = shapeCast S32x1x2048 (show Vec Ideal S32x2048 .i32 from m ((c : Thread nD τ).loc main_arg7)) shapeCasts_S32x2048_S32x1x2048 := by
  unfold V V0
  simp only [List.flatten_cons, List.flatten_nil, List.append_nil, List.nil_append]
  after_results
  rfl

theorem V_v4 (c : Dev nD) : (show Vec Ideal S1x1024 .f32 from V m c main_v4)
    = shapeCast S1x1024 (show Vec Ideal S1024 .f32 from m ((c : Thread nD τ).loc main_arg9)) shapeCasts_S1024_S1x1024 := by
  unfold V V0
  simp only [List.flatten_cons, List.flatten_nil, List.append_nil, List.nil_append]
  after_results
  rfl

theorem V_v5 (c : Dev nD) : (show Vec Ideal S1024x1 .f32 from V m c main_v5)
    = shapeCast S1024x1 (show Vec Ideal S1024 .f32 from m ((c : Thread nD τ).loc main_arg10)) shapeCasts_S1024_S1024x1 := by
  unfold V V0
  simp only [List.flatten_cons, List.flatten_nil, List.append_nil, List.nil_append]
  after_results
  rfl

theorem V_v6 (c : Dev nD) : (show Vec Ideal S1x1 .f32 from V m c main_v6)
    = shapeCast S1x1 (show Vec Ideal S_ .f32 from m ((c : Thread nD τ).loc main_arg11)) shapeCasts_S_S1x1 := by
  unfold V V0
  simp only [List.flatten_cons, List.flatten_nil, List.append_nil, List.nil_append]
  after_results
  rfl

/-! The blocks at a point, read at a position. -/

theorem blk0 (c : Dev nD) (t : Fin cfg0.N) (l : Fin 32) (k : Fin 1024) : iblk m c 0 t (ix3 0 l k) = (arg m c ⟨t.val, N_eq ▸ t.isLt⟩).q l k := by
  unfold arg Spec.ofArrays
  blk_point [iblk, V, idx t]

theorem blk2 (c : Dev nD) (t : Fin cfg0.N) (n : Fin 64) (d : Fin 1024) : iblk m c 2 t (ix3 0 n d) = (arg m c ⟨t.val, N_eq ▸ t.isLt⟩).ff n d := by
  unfold arg Spec.ofArrays
  blk_point [iblk, V, idx t]

theorem blk4 (c : Dev nD) (t : Fin cfg0.N) (j : Fin 2048) (d : Fin 1024) : iblk m c 4 t (ix3 0 j d) = (arg m c ⟨t.val, N_eq ▸ t.isLt⟩).of j d := by
  unfold arg Spec.ofArrays
  blk_point [iblk, V, idx t]

theorem blk6 (c : Dev nD) (t : Fin cfg0.N) (j : Fin 2048) (k : Fin 4) : iblk m c 6 t (ix3 0 j k) = (arg m c ⟨t.val, N_eq ▸ t.isLt⟩).box j k := by
  unfold arg Spec.ofArrays
  blk_point [iblk, V, idx t]

theorem blk8 (c : Dev nD) (t : Fin cfg0.N) (k d : Fin 1024) : iblk m c 8 t (ix2 k d) = (arg m c ⟨t.val, N_eq ▸ t.isLt⟩).Wq k d := by
  unfold arg Spec.ofArrays
  blk_point [iblk, V, idx t]

theorem blk12 (c : Dev nD) (t : Fin cfg0.N) (k d : Fin 1024) : iblk m c 12 t (ix2 k d) = (arg m c ⟨t.val, N_eq ▸ t.isLt⟩).Wt k d := by
  unfold arg Spec.ofArrays
  blk_point [iblk, V, idx t]

theorem blk13 (c : Dev nD) (t : Fin cfg0.N) (k d : Fin 1024) : iblk m c 13 t (ix2 k d) = (arg m c ⟨t.val, N_eq ▸ t.isLt⟩).Ws k d := by
  unfold arg Spec.ofArrays
  blk_point [iblk, V, idx t]

theorem blk1 (c : Dev nD) (t : Fin cfg0.N) (l : Fin 32) : iblk m c 1 t (ix3 0 l 0) = (arg m c ⟨t.val, N_eq ▸ t.isLt⟩).qm l := by
  have i : ((cfg0.win 1).blk t).view.emb (ix3 0 l 0) = ix3 (⟨t.val, N_eq ▸ t.isLt⟩ : Fin 32) l 0 := by blk_ext [idx t]
  unfold iblk
  rw [View.read, i]
  refine (congrFun (V_v0 m c) (ix3 (⟨t.val, N_eq ▸ t.isLt⟩ : Fin 32) l 0)).trans ?_
  pointwise []
  rfl

theorem blk3 (c : Dev nD) (t : Fin cfg0.N) (n : Fin 64) : iblk m c 3 t (ix3 0 0 n) = (arg m c ⟨t.val, N_eq ▸ t.isLt⟩).fm n := by
  have i : ((cfg0.win 3).blk t).view.emb (ix3 0 0 n) = ix3 (⟨t.val, N_eq ▸ t.isLt⟩ : Fin 32) 0 n := by blk_ext [idx t]
  unfold iblk
  rw [View.read, i]
  refine (congrFun (V_v1 m c) (ix3 (⟨t.val, N_eq ▸ t.isLt⟩ : Fin 32) 0 n)).trans ?_
  pointwise []
  rfl

theorem blk5 (c : Dev nD) (t : Fin cfg0.N) (j : Fin 2048) : iblk m c 5 t (ix3 0 0 j) = (arg m c ⟨t.val, N_eq ▸ t.isLt⟩).om j := by
  have i : ((cfg0.win 5).blk t).view.emb (ix3 0 0 j) = ix3 (⟨t.val, N_eq ▸ t.isLt⟩ : Fin 32) 0 j := by blk_ext [idx t]
  unfold iblk
  rw [View.read, i]
  refine (congrFun (V_v2 m c) (ix3 (⟨t.val, N_eq ▸ t.isLt⟩ : Fin 32) 0 j)).trans ?_
  pointwise []
  rfl

theorem blk7 (c : Dev nD) (t : Fin cfg0.N) (j : Fin 2048) : iblk m c 7 t (ix3 0 0 j) = (arg m c ⟨t.val, N_eq ▸ t.isLt⟩).tid j := by
  have i : ((cfg0.win 7).blk t).view.emb (ix3 0 0 j) = ix3 (⟨t.val, N_eq ▸ t.isLt⟩ : Fin 32) 0 j := by blk_ext [idx t]
  unfold iblk
  rw [View.read, i]
  refine (congrFun (V_v3 m c) (ix3 (⟨t.val, N_eq ▸ t.isLt⟩ : Fin 32) 0 j)).trans ?_
  pointwise []
  rfl

theorem blk9 (c : Dev nD) (t : Fin cfg0.N) (d : Fin 1024) : iblk m c 9 t (ix2 0 d) = (arg m c ⟨t.val, N_eq ▸ t.isLt⟩).bq d := by
  have i : ((cfg0.win 9).blk t).view.emb (ix2 0 d) = ix2 0 d := by blk_ext [idx t]
  unfold iblk
  rw [View.read, i]
  refine (congrFun (V_v4 m c) (ix2 0 d)).trans ?_
  pointwise []
  rfl

theorem blk10 (c : Dev nD) (t : Fin cfg0.N) (d : Fin 1024) : iblk m c 10 t (ix2 d 0) = (arg m c ⟨t.val, N_eq ▸ t.isLt⟩).w d := by
  have i : ((cfg0.win 10).blk t).view.emb (ix2 d 0) = ix2 d 0 := by blk_ext [idx t]
  unfold iblk
  rw [View.read, i]
  refine (congrFun (V_v5 m c) (ix2 d 0)).trans ?_
  pointwise []
  rfl

theorem blk11 (c : Dev nD) (t : Fin cfg0.N)  : iblk m c 11 t (ix2 0 0) = (arg m c ⟨t.val, N_eq ▸ t.isLt⟩).b := by
  have i : ((cfg0.win 11).blk t).view.emb (ix2 0 0) = ix2 0 0 := by blk_ext [idx t]
  unfold iblk
  rw [View.read, i]
  refine (congrFun (V_v6 m c) (ix2 0 0)).trans ?_
  pointwise []
  rfl

/-- The blocks at a point hold its batch. -/
theorem batch_eq (c : Dev nD) (t : Fin cfg0.N) : Score.batch (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = arg m c ⟨t.val, N_eq ▸ t.isLt⟩ := by
  have e : ∀ X Y : Spec.Batch, X.q = Y.q → X.qm = Y.qm → X.ff = Y.ff → X.fm = Y.fm → X.of = Y.of → X.om = Y.om → X.box = Y.box
      → X.tid = Y.tid → X.Wq = Y.Wq → X.bq = Y.bq → X.w = Y.w → X.b = Y.b → X.Wt = Y.Wt → X.Ws = Y.Ws → X = Y := by
    intro X Y; cases X; cases Y; intros; simp_all
  refine e _ _ (funext₂ (blk0 m c t)) (funext (blk1 m c t)) (funext₂ (blk2 m c t)) (funext (blk3 m c t)) (funext₂ (blk4 m c t))
    (funext (blk5 m c t)) (funext₂ (blk6 m c t)) (funext (blk7 m c t)) (funext₂ (blk8 m c t)) (funext (blk9 m c t))
    (funext (blk10 m c t)) (blk11 m c t) (funext₂ (blk12 m c t)) (funext₂ (blk13 m c t))

/-! ## The result arrays -/

variable (hf : ∀ c b n, ⊥ < (arg m c b).fsc n) (ho : ∀ c b j, ⊥ < (arg m c b).osc j)

include hf

theorem hf_blk (c : Dev nD) (t : Fin cfg0.N) (n : Fin 64) : ⊥ < (Score.batch (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).fsc n := by
  rw [batch_eq]; exact hf c _ n

/-- The picked frames. -/
theorem final14 (c : Dev nD) : (dats m 0 c).arrAt 14 (cfgs 0).N = fun i : S32x1x8.Idx => (arg m c (i 0)).gf (i 2) := by
  refine (dats m 0 c).arrAt_eq_of_covers 14 _ (by decide +kernel) fun t _ y => ?_
  blk_simp
  rw [after0_14]
  have e0 : ((win0_14.blk t).view.emb y 0 : S32x1x8.Coord 0) = (⟨t.val, N_eq ▸ t.isLt⟩ : Fin 32) := by
    apply Fin.ext; blk_simp [idx t]
  have e2 : ((win0_14.blk t).view.emb y 2 : S32x1x8.Coord 2) = (y 2 : S32x1x8.Coord 2) := by
    apply Fin.ext; blk_simp [idx t]
  have hy : y = ix3 0 0 (y 2) := by blk_ext []
  refine (congrArg _ hy).trans ((Point.out14 _ _ _ _ _ _ _ _ _ _ _ _ _ _ (hf_blk m hf c t) (y 2)).trans ?_)
  unfold Point.bt
  rw [batch_eq]
  exact congr (congrArg (fun b => (arg m c b).gf) e0.symm) e2.symm

/-- The mask of the picked frames. -/
theorem final16 (c : Dev nD) : (dats m 0 c).arrAt 16 (cfgs 0).N = fun i : S32x1x64.Idx => (arg m c (i 0)).gfm (i 2) := by
  refine (dats m 0 c).arrAt_eq_of_covers 16 _ (by decide +kernel) fun t _ y => ?_
  blk_simp
  rw [after0_16]
  have e0 : ((win0_16.blk t).view.emb y 0 : S32x1x64.Coord 0) = (⟨t.val, N_eq ▸ t.isLt⟩ : Fin 32) := by
    apply Fin.ext; blk_simp [idx t]
  have e2 : ((win0_16.blk t).view.emb y 2 : S32x1x64.Coord 2) = (y 2 : S32x1x64.Coord 2) := by
    apply Fin.ext; blk_simp [idx t]
  have hy : y = ix3 0 0 (y 2) := by blk_ext []
  refine (congrArg _ hy).trans ((Point.out16 _ _ _ _ _ _ _ _ _ _ _ _ _ _ (hf_blk m hf c t) (y 2)).trans ?_)
  unfold Point.bt
  rw [batch_eq]
  exact congr (congrArg (fun b => (arg m c b).gfm) e0.symm) e2.symm

/-- The mask of the other frames. -/
theorem final17 (c : Dev nD) : (dats m 0 c).arrAt 17 (cfgs 0).N = fun i : S32x1x64.Idx => (arg m c (i 0)).nfm (i 2) := by
  refine (dats m 0 c).arrAt_eq_of_covers 17 _ (by decide +kernel) fun t _ y => ?_
  blk_simp
  rw [after0_17]
  have e0 : ((win0_17.blk t).view.emb y 0 : S32x1x64.Coord 0) = (⟨t.val, N_eq ▸ t.isLt⟩ : Fin 32) := by
    apply Fin.ext; blk_simp [idx t]
  have e2 : ((win0_17.blk t).view.emb y 2 : S32x1x64.Coord 2) = (y 2 : S32x1x64.Coord 2) := by
    apply Fin.ext; blk_simp [idx t]
  have hy : y = ix3 0 0 (y 2) := by blk_ext []
  refine (congrArg _ hy).trans ((Point.out17 _ _ _ _ _ _ _ _ _ _ _ _ _ _ (hf_blk m hf c t) (y 2)).trans ?_)
  unfold Point.bt
  rw [batch_eq]
  exact congr (congrArg (fun b => (arg m c b).nfm) e0.symm) e2.symm

include ho

theorem ho_blk (c : Dev nD) (t : Fin cfg0.N) (j : Fin 2048) : ⊥ < (Score.batch (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).osc j := by
  rw [batch_eq]; exact ho c _ j

/-- The boxes of the picked tokens. -/
theorem final15 (c : Dev nD) : (dats m 0 c).arrAt 15 (cfgs 0).N = fun i : S32x32x4.Idx => (arg m c (i 0)).gbox (i 1) (i 2) := by
  refine (dats m 0 c).arrAt_eq_of_covers 15 _ (by decide +kernel) fun t _ y => ?_
  blk_simp
  rw [after0_15]
  have e0 : ((win0_15.blk t).view.emb y 0 : S32x32x4.Coord 0) = (⟨t.val, N_eq ▸ t.isLt⟩ : Fin 32) := by
    apply Fin.ext; blk_simp [idx t]
  have e1 : ((win0_15.blk t).view.emb y 1 : S32x32x4.Coord 1) = (y 1 : S32x32x4.Coord 1) := by
    apply Fin.ext; blk_simp [idx t]
  have e2 : ((win0_15.blk t).view.emb y 2 : S32x32x4.Coord 2) = (y 2 : S32x32x4.Coord 2) := by
    apply Fin.ext; blk_simp [idx t]
  have hy : y = ix3 0 (y 1) (y 2) := by blk_ext []
  refine (congrArg _ hy).trans ((Point.out15 _ _ _ _ _ _ _ _ _ _ _ _ _ _ (hf_blk m hf c t) (ho_blk m hf ho c t) (y 1) (y 2)).trans ?_)
  unfold Point.bt
  rw [batch_eq]
  exact congr (congr (congrArg (fun b => (arg m c b).gbox) e0.symm) e1.symm) e2.symm

/-- The mask of the picked tokens. -/
theorem final18 (c : Dev nD) : (dats m 0 c).arrAt 18 (cfgs 0).N = fun i : S32x1x2048.Idx => (arg m c (i 0)).go (i 2) := by
  refine (dats m 0 c).arrAt_eq_of_covers 18 _ (by decide +kernel) fun t _ y => ?_
  blk_simp
  rw [after0_18]
  have e0 : ((win0_18.blk t).view.emb y 0 : S32x1x2048.Coord 0) = (⟨t.val, N_eq ▸ t.isLt⟩ : Fin 32) := by
    apply Fin.ext; blk_simp [idx t]
  have e2 : ((win0_18.blk t).view.emb y 2 : S32x1x2048.Coord 2) = (y 2 : S32x1x2048.Coord 2) := by
    apply Fin.ext; blk_simp [idx t]
  have hy : y = ix3 0 0 (y 2) := by blk_ext []
  refine (congrArg _ hy).trans ((Point.out18 _ _ _ _ _ _ _ _ _ _ _ _ _ _ (hf_blk m hf c t) (ho_blk m hf ho c t) (y 2)).trans ?_)
  unfold Point.bt
  rw [batch_eq]
  exact congr (congrArg (fun b => (arg m c b).go) e0.symm) e2.symm

/-- The mask of the other tokens. -/
theorem final19 (c : Dev nD) : (dats m 0 c).arrAt 19 (cfgs 0).N = fun i : S32x1x2048.Idx => (arg m c (i 0)).nom (i 2) := by
  refine (dats m 0 c).arrAt_eq_of_covers 19 _ (by decide +kernel) fun t _ y => ?_
  blk_simp
  rw [after0_19]
  have e0 : ((win0_19.blk t).view.emb y 0 : S32x1x2048.Coord 0) = (⟨t.val, N_eq ▸ t.isLt⟩ : Fin 32) := by
    apply Fin.ext; blk_simp [idx t]
  have e2 : ((win0_19.blk t).view.emb y 2 : S32x1x2048.Coord 2) = (y 2 : S32x1x2048.Coord 2) := by
    apply Fin.ext; blk_simp [idx t]
  have hy : y = ix3 0 0 (y 2) := by blk_ext []
  refine (congrArg _ hy).trans ((Point.out19 _ _ _ _ _ _ _ _ _ _ _ _ _ _ (hf_blk m hf c t) (ho_blk m hf ho c t) (y 2)).trans ?_)
  unfold Point.bt
  rw [batch_eq]
  exact congr (congrArg (fun b => (arg m c b).nom) e0.symm) e2.symm

end Cert.KernelIdeal.Value

end
-- ==== Proof.KRun.lean ====
/-
  THE KERNEL'S RUN: its six results, as the batches' results, and its arguments unchanged.
-/
module

public import proofs.«01_k».proof.Proof.KValue

@[expose] public section

set_option maxRecDepth 16384

noncomputable section

open Idealize.ShloMosaic Idealize.ShloMosaic.TcCoe Idealize.SL.Sem

namespace Cert.KernelIdeal.Value

open Cert.KernelIdeal Cert.KernelIdeal.Gen

/-! The results reshaped after the region. -/

theorem tail_v8 (m : (ℓ : Loc nD τ sig) → Buf (Elt Ideal) ℓ) (hf : ∀ c b n, ⊥ < (arg m c b).fsc n) (c : Dev nD) :
    (show Vec Ideal S32x8 .i32 from Pipeline.afterTail₀ cfgs (dats m) 0 (V0 m) [hostOps1] c main_v8)
      = fun i : S32x8.Idx => (arg m c (i 0)).gf (i 1) := by
  unfold Pipeline.afterTail₀
  simp only [List.flatten_cons, List.flatten_nil, List.append_nil, List.nil_append]
  after_results
  erw [Pipeline.withArrays_arr _ launch0.win.arr_inj c (V0 m c) _ 14]
  funext i
  idx_vars i
  pointwise []
  exact congrFun (final14 m hf c) _

theorem tail_v9 (m : (ℓ : Loc nD τ sig) → Buf (Elt Ideal) ℓ) (hf : ∀ c b n, ⊥ < (arg m c b).fsc n) (c : Dev nD) :
    (show Vec Ideal S32x64 .f32 from Pipeline.afterTail₀ cfgs (dats m) 0 (V0 m) [hostOps1] c main_v9)
      = fun i : S32x64.Idx => (arg m c (i 0)).gfm (i 1) := by
  unfold Pipeline.afterTail₀
  simp only [List.flatten_cons, List.flatten_nil, List.append_nil, List.nil_append]
  after_results
  erw [Pipeline.withArrays_arr _ launch0.win.arr_inj c (V0 m c) _ 16]
  funext i
  idx_vars i
  pointwise []
  exact congrFun (final16 m hf c) _

theorem tail_v10 (m : (ℓ : Loc nD τ sig) → Buf (Elt Ideal) ℓ) (hf : ∀ c b n, ⊥ < (arg m c b).fsc n) (c : Dev nD) :
    (show Vec Ideal S32x64 .f32 from Pipeline.afterTail₀ cfgs (dats m) 0 (V0 m) [hostOps1] c main_v10)
      = fun i : S32x64.Idx => (arg m c (i 0)).nfm (i 1) := by
  unfold Pipeline.afterTail₀
  simp only [List.flatten_cons, List.flatten_nil, List.append_nil, List.nil_append]
  after_results
  erw [Pipeline.withArrays_arr _ launch0.win.arr_inj c (V0 m c) _ 17]
  funext i
  idx_vars i
  pointwise []
  exact congrFun (final17 m hf c) _

theorem tail_v11 (m : (ℓ : Loc nD τ sig) → Buf (Elt Ideal) ℓ) (hf : ∀ c b n, ⊥ < (arg m c b).fsc n) (ho : ∀ c b j, ⊥ < (arg m c b).osc j) (c : Dev nD) :
    (show Vec Ideal S32x2048 .f32 from Pipeline.afterTail₀ cfgs (dats m) 0 (V0 m) [hostOps1] c main_v11)
      = fun i : S32x2048.Idx => (arg m c (i 0)).go (i 1) := by
  unfold Pipeline.afterTail₀
  simp only [List.flatten_cons, List.flatten_nil, List.append_nil, List.nil_append]
  after_results
  erw [Pipeline.withArrays_arr _ launch0.win.arr_inj c (V0 m c) _ 18]
  funext i
  idx_vars i
  pointwise []
  exact congrFun (final18 m hf ho c) _

theorem tail_v12 (m : (ℓ : Loc nD τ sig) → Buf (Elt Ideal) ℓ) (hf : ∀ c b n, ⊥ < (arg m c b).fsc n) (ho : ∀ c b j, ⊥ < (arg m c b).osc j) (c : Dev nD) :
    (show Vec Ideal S32x2048 .f32 from Pipeline.afterTail₀ cfgs (dats m) 0 (V0 m) [hostOps1] c main_v12)
      = fun i : S32x2048.Idx => (arg m c (i 0)).nom (i 1) := by
  unfold Pipeline.afterTail₀
  simp only [List.flatten_cons, List.flatten_nil, List.append_nil, List.nil_append]
  after_results
  erw [Pipeline.withArrays_arr _ launch0.win.arr_inj c (V0 m c) _ 19]
  funext i
  idx_vars i
  pointwise []
  exact congrFun (final19 m hf ho c) _

set_option maxHeartbeats 2000000 in
theorem run (m : (ℓ : Loc nD τ sig) → Buf (Elt Ideal) ℓ) (g : Dev nD → PrngReg)
    (hf : ∀ c b n, ⊥ < (arg m c b).fsc n) (ho : ∀ c b j, ⊥ < (arg m c b).osc j) :
    θ_run (defs (F := Ideal)) (onTc (τ := τ) (main (F := Ideal))) ⟨m, fun _ => 0, g⟩ (fun r => ∀ c : Dev nD,
      r.2.mem ((c.tc : Thread nD τ).loc main_v8) = (fun i : S32x8.Idx => (arg m c (i 0)).gf (i 1))
      ∧ r.2.mem ((c.tc : Thread nD τ).loc main_v7_1) = (fun i : S32x32x4.Idx => (arg m c (i 0)).gbox (i 1) (i 2))
      ∧ r.2.mem ((c.tc : Thread nD τ).loc main_v9) = (fun i : S32x64.Idx => (arg m c (i 0)).gfm (i 1))
      ∧ r.2.mem ((c.tc : Thread nD τ).loc main_v10) = (fun i : S32x64.Idx => (arg m c (i 0)).nfm (i 1))
      ∧ r.2.mem ((c.tc : Thread nD τ).loc main_v11) = (fun i : S32x2048.Idx => (arg m c (i 0)).go (i 1))
      ∧ r.2.mem ((c.tc : Thread nD τ).loc main_v12) = (fun i : S32x2048.Idx => (arg m c (i 0)).nom (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  run_from Cert.KernelIdeal.Gen.run_main m g
  all_goals first
    | exact tail_v8 m hf c
    | exact tail_v9 m hf c
    | exact tail_v10 m hf c
    | exact tail_v11 m hf ho c
    | exact tail_v12 m hf ho c
    | exact final15 m hf ho c
    | exact W_main_arg1 m (dats m) c
    | exact W_main_arg3 m (dats m) c
    | exact W_main_arg5 m (dats m) c
    | exact W_main_arg7 m (dats m) c
    | exact W_main_arg9 m (dats m) c
    | exact W_main_arg10 m (dats m) c
    | exact W_main_arg11 m (dats m) c

end Cert.KernelIdeal.Value

end
-- ==== Proof.RScore.lean ====
/-
  THE REFERENCE'S SCORES. The reference's pooled question and frame scores, read at a position, are the batch's.
-/
module

public import proofs.«01_k».proof.Proof.Spec
public import proofs.«01_k».proof.Proof.Consts
public import proofs.«01_k».proof.Proof.Gen.ReferenceIdeal.Read

@[expose] public section

set_option maxRecDepth 16384

noncomputable section

namespace Cert.ReferenceIdeal.Score

open Idealize.ShloMosaic Cert.ReferenceIdeal Cert.ReferenceIdeal.Gen Cert.ReferenceIdeal.Read Cert.Spec

variable (x0 : FVec Ideal S32x32x1024 .f32) (x1 : FVec Ideal S32x32 .f32) (x2 : FVec Ideal S32x64x1024 .f32) (x3 : FVec Ideal S32x64 .f32)
  (x4 : FVec Ideal S32x2048x1024 .f32) (x5 : FVec Ideal S32x2048 .f32) (x6 : FVec Ideal S32x2048x4 .f32) (x7 : IVec S32x2048 32)
  (x8 : FVec Ideal S1024x1024 .f32) (x9 x10 : FVec Ideal S1024 .f32) (x11 : FVec Ideal S_ .f32) (x12 x13 : FVec Ideal S1024x1024 .f32)

/-- The batch `c` of the reference's arguments. -/
abbrev batch (c : Fin 32) : Batch := ofArrays x0 x1 x2 x3 x4 x5 x6 x7 x8 x9 x10 x11 x12 x13 c

theorem proj_at (c : Fin 32) (l : Fin 32) (d : Fin 1024) : val_main_v3 (F := Ideal) x0 x8 x9 (ix3 c l d) = (batch x0 x1 x2 x3 x4 x5 x6 x7 x8 x9 x10 x11 x12 x13 c).proj l d := by
  pointwise [val_main_v3, val_main_v0, val_main_v2, val_main_v1]
  rfl

theorem logit_at (c l : Fin 32) : val_main_v6 (F := Ideal) x0 x8 x9 x10 x11 (ix2 c l) = (batch x0 x1 x2 x3 x4 x5 x6 x7 x8 x9 x10 x11 x12 x13 c).logit l := by
  pointwise [val_main_v6, val_main_v5, val_main_v4]
  simp only [proj_at x0 x1 x2 x3 x4 x5 x6 x7 x8 x9 x10 x11 x12 x13]
  rfl

theorem ex_at (c l : Fin 32) : val_main_v13 (F := Ideal) x0 x8 x9 x10 x11 (ix2 c l) = (batch x0 x1 x2 x3 x4 x5 x6 x7 x8 x9 x10 x11 x12 x13 c).ex l := by
  pointwise [val_main_v13, val_main_v12, val_main_v11, val_main_v10, val_main_v9, val_main_v8, val_main_v7, val_main_cst, val_main_cst_0]
  simp only [logit_at x0 x1 x2 x3 x4 x5 x6 x7 x8 x9 x10 x11 x12 x13, Consts.negInf, max_bot_left]
  rfl

theorem soft_at (c l : Fin 32) : val_main_v18 (F := Ideal) x0 x1 x8 x9 x10 x11 (ix2 c l) = (batch x0 x1 x2 x3 x4 x5 x6 x7 x8 x9 x10 x11 x12 x13 c).soft l := by
  pointwise [val_main_v18, val_main_v17, val_main_v16, val_main_v15, val_main_v14, val_main_cst_1]
  simp only [ex_at x0 x1 x2 x3 x4 x5 x6 x7 x8 x9 x10 x11 x12 x13, zero_add]
  rfl

theorem att_at (c l : Fin 32) : val_main_v24 (F := Ideal) x0 x1 x8 x9 x10 x11 (ix2 c l) = (batch x0 x1 x2 x3 x4 x5 x6 x7 x8 x9 x10 x11 x12 x13 c).att l := by
  pointwise [val_main_v24, val_main_v23, val_main_v22, val_main_v21, val_main_v20, val_main_v19, val_main_cst_2, val_main_cst_3]
  simp only [soft_at x0 x1 x2 x3 x4 x5 x6 x7 x8 x9 x10 x11 x12 x13, zero_add]
  rfl

theorem gq_at (c : Fin 32) (d : Fin 1024) : val_main_v25 (F := Ideal) x0 x1 x8 x9 x10 x11 (ix2 c d) = (batch x0 x1 x2 x3 x4 x5 x6 x7 x8 x9 x10 x11 x12 x13 c).gq d := by
  pointwise [val_main_v25]
  simp only [att_at x0 x1 x2 x3 x4 x5 x6 x7 x8 x9 x10 x11 x12 x13, proj_at x0 x1 x2 x3 x4 x5 x6 x7 x8 x9 x10 x11 x12 x13]
  rfl

/-- Dividing by thirty-two multiplies by its inverse. -/
theorem div32 (a : EReal) : Ideal.div a (Ideal.ofBits .f32 0x42000000#32) = a * Ideal.ofBits .f32 0x3D000000#32 := by
  rw [Consts.c32, Consts.c32inv, Ideal.div_coe (by norm_num)]

/-- The batch's frame scores. -/
theorem fsc_at (c : Fin 32) (n : Fin 64) : val_main_v32 (F := Ideal) x0 x1 x2 x3 x8 x9 x10 x11 x12 (ix2 c n) = (batch x0 x1 x2 x3 x4 x5 x6 x7 x8 x9 x10 x11 x12 x13 c).fsc n := by
  pointwise [val_main_v32, val_main_call0_v1, val_main_call0_v0, val_main_v31, val_main_v30, val_main_v29, val_main_v28, val_main_v27, val_main_v26, val_main_cst_4, val_main_cst_5, val_main_cst_6]
  simp only [gq_at x0 x1 x2 x3 x4 x5 x6 x7 x8 x9 x10 x11 x12 x13, div32]
  rfl

/-- The batch's OCR scores, before the mask. -/
theorem raw_at (c : Fin 32) (j : Fin 2048) : val_main_v56 (F := Ideal) x0 x1 x4 x8 x9 x10 x11 x13 (ix2 c j) = (batch x0 x1 x2 x3 x4 x5 x6 x7 x8 x9 x10 x11 x12 x13 c).score (batch x0 x1 x2 x3 x4 x5 x6 x7 x8 x9 x10 x11 x12 x13 c).Ws ((batch x0 x1 x2 x3 x4 x5 x6 x7 x8 x9 x10 x11 x12 x13 c).of j) := by
  pointwise [val_main_v56, val_main_v55, val_main_v54, val_main_v53, val_main_cst_14]
  simp only [gq_at x0 x1 x2 x3 x4 x5 x6 x7 x8 x9 x10 x11 x12 x13, div32]
  rfl

end Cert.ReferenceIdeal.Score

end
-- ==== Proof.RPick.lean ====
/-
  THE REFERENCE'S TOP-K: the position at rank `r` is the stable sort's `r`-th pick.
-/
module

public import proofs.«01_k».proof.Proof.RScore
public import Idealize.ShloMosaic.Lib.Routing.OpsOrder

@[expose] public section

set_option maxRecDepth 16384

noncomputable section

namespace Cert.ReferenceIdeal.Score

open Idealize.ShloMosaic Cert.ReferenceIdeal Cert.ReferenceIdeal.Gen Cert.ReferenceIdeal.Read Cert.Spec Cert.Rounds

/-- Greater, as the extended reals' order. -/
theorem gt_eq (a b : EReal) : (FloatOps.cmpfTotal (F := Ideal) (φ := .f32) .gt a b == 1#1) = decide (b < a) := by
  rw [Ideal.cmpfTotal_def]
  by_cases h : b < a
  all_goals simp [Ideal.cmp, CmpDirection.ordered, h]

/-- A top-k's position at rank `r`. -/
theorem topK_at {B N K : Nat} (v : FVec Ideal ⟨2, ![B, N]⟩ .f32) (h : (⟨2, ![B, N]⟩ : Shape).Slices (fun _ => 0) ⟨2, ![B, K]⟩)
    (b : Fin B) (r : Fin K) (hr : r.val < N) :
    (Host.topK ⟨2, ![B, K]⟩ 1 (FloatOps.cmpfTotal (F := Ideal) (φ := .f32) .gt) v h).2 (ix2 b r)
      = BitVec.ofNat 32 (pick (fun n => v (ix2 b n)) r.val hr).val := by
  have along : ∀ (n k : Fin N), (ix2 b n : (⟨2, ![B, N]⟩ : Shape).Idx).along 1 k = ix2 b k := by
    intro n k; funext a; match a with | ⟨0, _⟩ => rfl | ⟨1, _⟩ => rfl
  unfold Host.topK Host.sort2
  pointwise []
  have hJ : ∀ p : ∀ a : Fin 2, (ix2 b r a).val < (⟨2, ![B, N]⟩ : Shape).size a,
      (Shape.Idx.norm fun a => ⟨(ix2 b r a).val, p a⟩ : (⟨2, ![B, N]⟩ : Shape).Idx) = ix2 b ⟨r.val, hr⟩ := by
    intro p; funext a; match a with | ⟨0, _⟩ => rfl | ⟨1, _⟩ => rfl
  erw [hJ]
  simp only [along, gt_eq]
  rfl

end Cert.ReferenceIdeal.Score

end
-- ==== Proof.RValue.lean ====
/-
  THE REFERENCE'S RESULTS. Each of the reference's six results, read at a position, is the batch's.
-/
module

public import proofs.«01_k».proof.Proof.RPick

@[expose] public section

set_option maxRecDepth 16384

noncomputable section

namespace Cert.ReferenceIdeal.Score

open Idealize.ShloMosaic Cert.ReferenceIdeal Cert.ReferenceIdeal.Gen Cert.ReferenceIdeal.Read Cert.Spec Cert.Rounds

variable (x0 : FVec Ideal S32x32x1024 .f32) (x1 : FVec Ideal S32x32 .f32) (x2 : FVec Ideal S32x64x1024 .f32) (x3 : FVec Ideal S32x64 .f32)
  (x4 : FVec Ideal S32x2048x1024 .f32) (x5 : FVec Ideal S32x2048 .f32) (x6 : FVec Ideal S32x2048x4 .f32) (x7 : IVec S32x2048 32)
  (x8 : FVec Ideal S1024x1024 .f32) (x9 x10 : FVec Ideal S1024 .f32) (x11 : FVec Ideal S_ .f32) (x12 x13 : FVec Ideal S1024x1024 .f32)

/-! ## The frames -/

theorem findex_at (c : Fin 32) (r : Fin 8) : val_main_indices (F := Ideal) x0 x1 x2 x3 x8 x9 x10 x11 x12 (ix2 c r)
    = BitVec.ofNat 32 ((batch x0 x1 x2 x3 x4 x5 x6 x7 x8 x9 x10 x11 x12 x13 c).fpick r).val := by
  unfold val_main_indices
  refine (topK_at _ _ c r (by omega)).trans ?_
  simp only [fsc_at x0 x1 x2 x3 x4 x5 x6 x7 x8 x9 x10 x11 x12 x13]
  rfl

theorem gf_at (c : Fin 32) (r : Fin 8) : val_main_v34 (F := Ideal) x0 x1 x2 x3 x8 x9 x10 x11 x12 (ix2 c r) = (batch x0 x1 x2 x3 x4 x5 x6 x7 x8 x9 x10 x11 x12 x13 c).gf r := by
  pointwise [val_main_v34, val_main_v33, val_main_c]
  rw [findex_at x0 x1 x2 x3 x4 x5 x6 x7 x8 x9 x10 x11 x12 x13]
  rfl

/-- Two small words are equal when their numbers are. -/
theorem word_eq {a b : Nat} (ha : a < 2 ^ 32) (hb : b < 2 ^ 32) : BitVec.ofNat 32 a = BitVec.ofNat 32 b ↔ b = a := by
  constructor
  · intro h
    have := congrArg BitVec.toNat h
    simp only [BitVec.toNat_ofNat, Nat.mod_eq_of_lt ha, Nat.mod_eq_of_lt hb] at this
    exact this.symm
  · rintro rfl; rfl

/-- A bit as a float. -/
theorem bit_eq (b : BitVec 1) : FloatOps.uitofp (F := Ideal) .f32 b = if b = 1#1 then (1 : EReal) else 0 := by
  rcases BitVec.eq_zero_or_eq_one b with h | h <;> subst h <;> simp [FloatOps.uitofp]

/-- An equality of words, as a bit. -/
theorem eq_bit {w : Nat} (a b : BitVec w) : IntOp.cmpi .eq a b = 1#1 ↔ a = b := by
  by_cases h : a = b
  · subst h; simp [IntOp.cmpi]
  · simp only [IntOp.cmpi, beq_eq_false_iff_ne.2 h, h]; decide

/-- Whether two small numbers are equal, as a float. -/
theorem same_eq {a b : Nat} (ha : a < 2 ^ 32) (hb : b < 2 ^ 32) :
    FloatOps.uitofp (F := Ideal) .f32 (IntOp.cmpi .eq (BitVec.ofNat 32 a) (BitVec.ofNat 32 b)) = if b = a then (1 : EReal) else 0 := by
  rw [bit_eq]
  simp only [eq_bit, word_eq ha hb]

theorem fsel_at (c : Fin 32) (n : Fin 64) : val_main_v37 (F := Ideal) x0 x1 x2 x3 x8 x9 x10 x11 x12 (ix2 c n) = (batch x0 x1 x2 x3 x4 x5 x6 x7 x8 x9 x10 x11 x12 x13 c).fsel n := by
  pointwise [val_main_v37, val_main_call2_v4, val_main_call2_v3, val_main_call2_v2, val_main_call2_v1, val_main_call2_v0, val_main_v36, val_main_v35, val_main_call1_v4, val_main_call1_v3, val_main_call1_v2, val_main_call1_v1, val_main_call1_v0, val_main_cst_7, val_main_cst_8, val_main_cst_9]
  simp only [findex_at x0 x1 x2 x3 x4 x5 x6 x7 x8 x9 x10 x11 x12 x13]
  unfold Batch.fsel
  refine congrArg₂ min Ideal.ofBits_one_f32 (congrArg₂ max Ideal.ofBits_zero_f32 (Finset.sum_congr rfl fun r _ => ?_))
  rw [same_eq (by have := ((batch x0 x1 x2 x3 x4 x5 x6 x7 x8 x9 x10 x11 x12 x13 c).fpick r).isLt; omega) (by omega)]
  simp only [Fin.ext_iff]

theorem gfm_at (c : Fin 32) (n : Fin 64) : val_main_v41 (F := Ideal) x0 x1 x2 x3 x8 x9 x10 x11 x12 (ix2 c n) = (batch x0 x1 x2 x3 x4 x5 x6 x7 x8 x9 x10 x11 x12 x13 c).gfm n := by
  pointwise [val_main_v41]
  rw [fsel_at x0 x1 x2 x3 x4 x5 x6 x7 x8 x9 x10 x11 x12 x13]
  rfl

theorem nfm_at (c : Fin 32) (n : Fin 64) : val_main_v40 (F := Ideal) x0 x1 x2 x3 x8 x9 x10 x11 x12 (ix2 c n) = (batch x0 x1 x2 x3 x4 x5 x6 x7 x8 x9 x10 x11 x12 x13 c).nfm n := by
  pointwise [val_main_v40, val_main_v39, val_main_v38, val_main_cst_10]
  rw [fsel_at x0 x1 x2 x3 x4 x5 x6 x7 x8 x9 x10 x11 x12 x13]
  rfl

/-! ## The OCR tokens -/

/-- A picked frame's number is not zero. -/
theorem gf_ne (X : Batch) (r : Fin 8) : X.gf r ≠ 0#32 := by
  unfold Batch.gf
  have := (X.fpick r).isLt
  intro h
  have h := congrArg BitVec.toNat h
  simp only [BitVec.toNat_add, BitVec.toNat_ofNat] at h
  omega

theorem gf1_at (c : Fin 32) (r : Fin 8) : val_main_v44 (F := Ideal) x0 x1 x2 x3 x8 x9 x10 x11 x12 (ix2 c r) = (batch x0 x1 x2 x3 x4 x5 x6 x7 x8 x9 x10 x11 x12 x13 c).gf r := by
  pointwise [val_main_v44, val_main_v43, val_main_v42, val_main_c_11, val_main_call3_v1, val_main_call3_v0, val_main_c_12]
  rw [gf_at x0 x1 x2 x3 x4 x5 x6 x7 x8 x9 x10 x11 x12 x13]
  exact if_neg fun h => gf_ne _ r ((eq_bit _ _).1 h)

theorem valid_at (c : Fin 32) (j : Fin 2048) : val_main_v52 (F := Ideal) x0 x1 x2 x3 x5 x7 x8 x9 x10 x11 x12 (ix2 c j) = (batch x0 x1 x2 x3 x4 x5 x6 x7 x8 x9 x10 x11 x12 x13 c).valid j := by
  pointwise [val_main_v52, val_main_v51, val_main_v50, val_main_v49, val_main_v48, val_main_v47, val_main_v46, val_main_v45, val_main_c_13]
  simp only [gf1_at x0 x1 x2 x3 x4 x5 x6 x7 x8 x9 x10 x11 x12 x13]
  rw [bit_eq]
  simp only [Idealize.ShloMosaic.Routing.fold_ori, eq_bit, Finset.mem_univ, true_and]
  rfl

theorem osc_at (c : Fin 32) (j : Fin 2048) : val_main_v59 (F := Ideal) x0 x1 x2 x3 x4 x5 x7 x8 x9 x10 x11 x12 x13 (ix2 c j) = (batch x0 x1 x2 x3 x4 x5 x6 x7 x8 x9 x10 x11 x12 x13 c).osc j := by
  pointwise [val_main_v59, val_main_call4_v1, val_main_call4_v0, val_main_v58, val_main_v57, val_main_cst_15, val_main_cst_16]
  simp only [valid_at x0 x1 x2 x3 x4 x5 x6 x7 x8 x9 x10 x11 x12 x13, raw_at x0 x1 x2 x3 x4 x5 x6 x7 x8 x9 x10 x11 x12 x13]
  rfl

theorem oindex_at (c r : Fin 32) : val_main_indices_18 (F := Ideal) x0 x1 x2 x3 x4 x5 x7 x8 x9 x10 x11 x12 x13 (ix2 c r)
    = BitVec.ofNat 32 ((batch x0 x1 x2 x3 x4 x5 x6 x7 x8 x9 x10 x11 x12 x13 c).opick r).val := by
  unfold val_main_indices_18
  refine (topK_at _ _ c r (by omega)).trans ?_
  simp only [osc_at x0 x1 x2 x3 x4 x5 x6 x7 x8 x9 x10 x11 x12 x13]
  rfl

theorem osel_at (c : Fin 32) (j : Fin 2048) : val_main_v64 (F := Ideal) x0 x1 x2 x3 x4 x5 x7 x8 x9 x10 x11 x12 x13 (ix2 c j) = (batch x0 x1 x2 x3 x4 x5 x6 x7 x8 x9 x10 x11 x12 x13 c).osel j := by
  pointwise [val_main_v64, val_main_call7_v4, val_main_call7_v3, val_main_call7_v2, val_main_call7_v1, val_main_call7_v0, val_main_v63, val_main_v62, val_main_call6_v4, val_main_call6_v3, val_main_call6_v2, val_main_call6_v1, val_main_call6_v0, val_main_cst_19, val_main_cst_20, val_main_cst_21]
  simp only [oindex_at x0 x1 x2 x3 x4 x5 x6 x7 x8 x9 x10 x11 x12 x13]
  unfold Batch.osel
  refine congrArg₂ min Ideal.ofBits_one_f32 (congrArg₂ max Ideal.ofBits_zero_f32 (Finset.sum_congr rfl fun r _ => ?_))
  rw [same_eq (by have := ((batch x0 x1 x2 x3 x4 x5 x6 x7 x8 x9 x10 x11 x12 x13 c).opick r).isLt; omega) (by omega)]
  simp only [Fin.ext_iff]

theorem go_at (c : Fin 32) (j : Fin 2048) : val_main_v65 (F := Ideal) x0 x1 x2 x3 x4 x5 x7 x8 x9 x10 x11 x12 x13 (ix2 c j) = (batch x0 x1 x2 x3 x4 x5 x6 x7 x8 x9 x10 x11 x12 x13 c).go j := by
  pointwise [val_main_v65]
  rw [osel_at x0 x1 x2 x3 x4 x5 x6 x7 x8 x9 x10 x11 x12 x13, valid_at x0 x1 x2 x3 x4 x5 x6 x7 x8 x9 x10 x11 x12 x13]
  rfl

theorem nom_at (c : Fin 32) (j : Fin 2048) : val_main_v68 (F := Ideal) x0 x1 x2 x3 x4 x5 x7 x8 x9 x10 x11 x12 x13 (ix2 c j) = (batch x0 x1 x2 x3 x4 x5 x6 x7 x8 x9 x10 x11 x12 x13 c).nom j := by
  pointwise [val_main_v68, val_main_v67, val_main_v66, val_main_cst_22]
  rw [go_at x0 x1 x2 x3 x4 x5 x6 x7 x8 x9 x10 x11 x12 x13, valid_at x0 x1 x2 x3 x4 x5 x6 x7 x8 x9 x10 x11 x12 x13]
  rfl

/-- A small number is not negative as a signed word. -/
theorem slt_zero {a : Nat} (ha : a < 2 ^ 31) : IntOp.cmpi .slt (BitVec.ofNat 32 a) 0#32 = 0#1 := by
  word_cmp

theorem sge_zero {a : Nat} (ha : a < 2 ^ 31) : IntOp.cmpi .sge (BitVec.ofNat 32 a) 0#32 = 1#1 := by
  word_cmp

theorem sle_last {a : Nat} (ha : a < 2048) : IntOp.cmpi .sle (BitVec.ofNat 32 a) 2047#32 = 1#1 := by
  word_cmp

/-- The index the boxes are read at: a small number is not wrapped. -/
theorem at_at (c r : Fin 32) (z : Fin 1) : val_main_call5_v4 (F := Ideal) x0 x1 x2 x3 x4 x5 x7 x8 x9 x10 x11 x12 x13 (ix3 c r z)
    = BitVec.ofNat 32 ((batch x0 x1 x2 x3 x4 x5 x6 x7 x8 x9 x10 x11 x12 x13 c).opick r).val := by
  pointwise [val_main_call5_v4, val_main_call5_v1, val_main_call5_v3, val_main_v60, val_main_call5_v0, val_main_call5_v2, val_main_call5_c, val_main_call5_c_0]
  rw [oindex_at x0 x1 x2 x3 x4 x5 x6 x7 x8 x9 x10 x11 x12 x13, slt_zero (by have := ((batch x0 x1 x2 x3 x4 x5 x6 x7 x8 x9 x10 x11 x12 x13 c).opick r).isLt; omega)]
  rfl

include x6 in
/-- It is in range. -/
theorem in_at (c r : Fin 32) : val_main_call5_v11 (F := Ideal) x0 x1 x2 x3 x4 x5 x7 x8 x9 x10 x11 x12 x13 (ix2 c r) = 1#1 := by
  pointwise [val_main_call5_v11, val_main_call5_v10, val_main_call5_v9, val_main_call5_v8, val_main_call5_v7, val_main_call5_v6, val_main_call5_v5, val_main_call5_c_1, val_main_call5_c_2, val_main_call5_c_3]
  simp only [at_at x0 x1 x2 x3 x4 x5 x6 x7 x8 x9 x10 x11 x12 x13]
  have h := ((batch x0 x1 x2 x3 x4 x5 x6 x7 x8 x9 x10 x11 x12 x13 c).opick r).isLt
  simp only [sge_zero (h.trans (by decide : 2048 < 2 ^ 31)), sle_last h]
  rfl

/-- The boxes gathered: batch by batch, the box at the index. -/
theorem gather_eq (x : FVec Ideal S32x2048x4 .f32) (idx : IVec S32x32x1 32) (c r : Fin 32) (k : Fin 4) (b : Fin 2048)
    (hb : idx (ix3 c r 0) = BitVec.ofNat 32 b.val) :
    Host.gather gather_S32x2048x4_S32x32x1_S32x32x4_2_1_0_0_1_2_114 x idx (ix3 c r k) = x (ix3 c b k) := by
  have b0 : (0 : Fin S32x2048x4.rank) ∈ gather_S32x2048x4_S32x32x1_S32x32x4_2_1_0_0_1_2_114.operandBatchingDims := by decide
  have b1 : (1 : Fin S32x2048x4.rank) ∉ gather_S32x2048x4_S32x32x1_S32x32x4_2_1_0_0_1_2_114.operandBatchingDims := by decide
  have b2 : (2 : Fin S32x2048x4.rank) ∉ gather_S32x2048x4_S32x32x1_S32x32x4_2_1_0_0_1_2_114.operandBatchingDims := by decide
  have k0 : (0 : Fin S32x2048x4.rank) ∉ gather_S32x2048x4_S32x32x1_S32x32x4_2_1_0_0_1_2_114.sKept := by decide
  have k1 : (1 : Fin S32x2048x4.rank) ∉ gather_S32x2048x4_S32x32x1_S32x32x4_2_1_0_0_1_2_114.sKept := by decide
  have k2 : (2 : Fin S32x2048x4.rank) ∈ gather_S32x2048x4_S32x32x1_S32x32x4_2_1_0_0_1_2_114.sKept := by decide
  have s1 : (1 : Fin S32x2048x4.rank) ∈ gather_S32x2048x4_S32x32x1_S32x32x4_2_1_0_0_1_2_114.startIndexMap := by decide
  have s2 : (2 : Fin S32x2048x4.rank) ∉ gather_S32x2048x4_S32x32x1_S32x32x4_2_1_0_0_1_2_114.startIndexMap := by decide
  unfold Host.gather
  refine congrArg x (funext fun a => Fin.ext ?_)
  show gather_S32x2048x4_S32x32x1_S32x32x4_2_1_0_0_1_2_114.start (ix3 c r k) idx a + gather_S32x2048x4_S32x32x1_S32x32x4_2_1_0_0_1_2_114.batchCoord (ix3 c r k) a
    + gather_S32x2048x4_S32x32x1_S32x32x4_2_1_0_0_1_2_114.offCoord (ix3 c r k) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ b0, GatherDims.offCoord_eq_zero _ _ _ k0]
    simp only [Nat.zero_add, Nat.add_zero]
    unfold GatherDims.batchCoord
    rw [dif_pos b0]
    rfl
  · rw [GatherDims.batchCoord_eq_zero _ _ _ b1, GatherDims.offCoord_eq_zero _ _ _ k1]
    simp only [Nat.add_zero]
    unfold GatherDims.start
    rw [dif_pos s1]
    have hsi : gather_S32x2048x4_S32x32x1_S32x32x4_2_1_0_0_1_2_114.siIdx (ix3 c r k)
        ⟨List.idxOf (1 : Fin S32x2048x4.rank) gather_S32x2048x4_S32x32x1_S32x32x4_2_1_0_0_1_2_114.startIndexMap, List.idxOf_lt_length_iff.2 s1⟩ = ix3 c r 0 := by
      funext e; refine Fin.ext ?_
      match e with
      | ⟨0, _⟩ => rfl
      | ⟨1, _⟩ => rfl
      | ⟨2, _⟩ => rfl
    rw [hsi, hb]
    have h := b.isLt
    have e : (BitVec.ofNat 32 b.val).toInt.toNat = b.val := by
      rw [BitVec.toInt_eq_toNat_of_lt (by rw [BitVec.toNat_ofNat]; omega), Int.toNat_natCast, BitVec.toNat_ofNat]; omega
    rw [e]
    show min b.val (2048 - 1) = b.val
    omega
  · rw [GatherDims.batchCoord_eq_zero _ _ _ b2]
    unfold GatherDims.start
    rw [dif_neg s2]
    simp only [Nat.zero_add]
    unfold GatherDims.offCoord
    rw [dif_pos k2]
    rfl

theorem gather_at (c r : Fin 32) (k : Fin 4) : val_main_call5_v12 (F := Ideal) x0 x1 x2 x3 x4 x5 x6 x7 x8 x9 x10 x11 x12 x13 (ix3 c r k)
    = (batch x0 x1 x2 x3 x4 x5 x6 x7 x8 x9 x10 x11 x12 x13 c).gbox r k := by
  unfold val_main_call5_v12
  exact gather_eq x6 _ c r k _ (at_at x0 x1 x2 x3 x4 x5 x6 x7 x8 x9 x10 x11 x12 x13 c r 0)

theorem gbox_at (c r : Fin 32) (k : Fin 4) : val_main_v61 (F := Ideal) x0 x1 x2 x3 x4 x5 x6 x7 x8 x9 x10 x11 x12 x13 (ix3 c r k)
    = (batch x0 x1 x2 x3 x4 x5 x6 x7 x8 x9 x10 x11 x12 x13 c).gbox r k := by
  pointwise [val_main_v61, val_main_call5_v13]
  rw [in_at x0 x1 x2 x3 x4 x5 x6 x7 x8 x9 x10 x11 x12 x13, gather_at x0 x1 x2 x3 x4 x5 x6 x7 x8 x9 x10 x11 x12 x13]
  rfl

end Cert.ReferenceIdeal.Score

end
-- ==== Proof.RRun.lean ====
/-
  THE REFERENCE'S RUN: its six results, as the batches' results, and its arguments unchanged.
-/
module

public import proofs.«01_k».proof.Proof.RValue

@[expose] public section

set_option maxRecDepth 16384

noncomputable section

open Idealize.ShloMosaic Idealize.ShloMosaic.TcCoe Idealize.SL.Sem

namespace Cert.ReferenceIdeal.Score

open Cert.ReferenceIdeal Cert.ReferenceIdeal.Gen Cert.ReferenceIdeal.Read Idealize.ShloMosaic.StableHlo

/-- A batch of the argument arrays. -/
def arg (m : (ℓ : Loc nD τ sig) → Buf (Elt Ideal) ℓ) (c : Dev nD) (b : Fin 32) : Spec.Batch :=
  Spec.ofArrays (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13)) b

/-! The results as whole arrays. -/

section

variable (x0 : FVec Ideal S32x32x1024 .f32) (x1 : FVec Ideal S32x32 .f32) (x2 : FVec Ideal S32x64x1024 .f32) (x3 : FVec Ideal S32x64 .f32)
  (x4 : FVec Ideal S32x2048x1024 .f32) (x5 : FVec Ideal S32x2048 .f32) (x6 : FVec Ideal S32x2048x4 .f32) (x7 : IVec S32x2048 32)
  (x8 : FVec Ideal S1024x1024 .f32) (x9 x10 : FVec Ideal S1024 .f32) (x11 : FVec Ideal S_ .f32) (x12 x13 : FVec Ideal S1024x1024 .f32)

theorem gf_fun : val_main_v34 (F := Ideal) x0 x1 x2 x3 x8 x9 x10 x11 x12 = fun i : S32x8.Idx => (batch x0 x1 x2 x3 x4 x5 x6 x7 x8 x9 x10 x11 x12 x13 (i 0)).gf (i 1) := by
  funext i
  idx_vars i
  exact gf_at x0 x1 x2 x3 x4 x5 x6 x7 x8 x9 x10 x11 x12 x13 i0 i1

theorem gbox_fun : val_main_v61 (F := Ideal) x0 x1 x2 x3 x4 x5 x6 x7 x8 x9 x10 x11 x12 x13 = fun i : S32x32x4.Idx => (batch x0 x1 x2 x3 x4 x5 x6 x7 x8 x9 x10 x11 x12 x13 (i 0)).gbox (i 1) (i 2) := by
  funext i
  idx_vars i
  exact gbox_at x0 x1 x2 x3 x4 x5 x6 x7 x8 x9 x10 x11 x12 x13 i0 i1 i2

theorem gfm_fun : val_main_v41 (F := Ideal) x0 x1 x2 x3 x8 x9 x10 x11 x12 = fun i : S32x64.Idx => (batch x0 x1 x2 x3 x4 x5 x6 x7 x8 x9 x10 x11 x12 x13 (i 0)).gfm (i 1) := by
  funext i
  idx_vars i
  exact gfm_at x0 x1 x2 x3 x4 x5 x6 x7 x8 x9 x10 x11 x12 x13 i0 i1

theorem nfm_fun : val_main_v40 (F := Ideal) x0 x1 x2 x3 x8 x9 x10 x11 x12 = fun i : S32x64.Idx => (batch x0 x1 x2 x3 x4 x5 x6 x7 x8 x9 x10 x11 x12 x13 (i 0)).nfm (i 1) := by
  funext i
  idx_vars i
  exact nfm_at x0 x1 x2 x3 x4 x5 x6 x7 x8 x9 x10 x11 x12 x13 i0 i1

theorem go_fun : val_main_v65 (F := Ideal) x0 x1 x2 x3 x4 x5 x7 x8 x9 x10 x11 x12 x13 = fun i : S32x2048.Idx => (batch x0 x1 x2 x3 x4 x5 x6 x7 x8 x9 x10 x11 x12 x13 (i 0)).go (i 1) := by
  funext i
  idx_vars i
  exact go_at x0 x1 x2 x3 x4 x5 x6 x7 x8 x9 x10 x11 x12 x13 i0 i1

theorem nom_fun : val_main_v68 (F := Ideal) x0 x1 x2 x3 x4 x5 x7 x8 x9 x10 x11 x12 x13 = fun i : S32x2048.Idx => (batch x0 x1 x2 x3 x4 x5 x6 x7 x8 x9 x10 x11 x12 x13 (i 0)).nom (i 1) := by
  funext i
  idx_vars i
  exact nom_at x0 x1 x2 x3 x4 x5 x6 x7 x8 x9 x10 x11 x12 x13 i0 i1

end

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v34) = (fun i : S32x8.Idx => (arg m c (i 0)).gf (i 1))
      ∧ r.2.mem ((c.tc : Thread nD τ).loc main_v61) = (fun i : S32x32x4.Idx => (arg m c (i 0)).gbox (i 1) (i 2))
      ∧ r.2.mem ((c.tc : Thread nD τ).loc main_v41) = (fun i : S32x64.Idx => (arg m c (i 0)).gfm (i 1))
      ∧ r.2.mem ((c.tc : Thread nD τ).loc main_v40) = (fun i : S32x64.Idx => (arg m c (i 0)).nfm (i 1))
      ∧ r.2.mem ((c.tc : Thread nD τ).loc main_v65) = (fun i : S32x2048.Idx => (arg m c (i 0)).go (i 1))
      ∧ r.2.mem ((c.tc : Thread nD τ).loc main_v68) = (fun i : S32x2048.Idx => (arg m c (i 0)).nom (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun r h c => ?_) (Cert.ReferenceIdeal.Value.run (F := Ideal) m g)
  obtain ⟨h0, h1, h2, h3, h4, h5, hargs⟩ := h c
  refine ⟨?_, ?_, ?_, ?_, ?_, ?_, hargs⟩
  · exact h0.trans ((val_main_v34_eq (launchContents m c)).trans (gf_fun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))))
  · exact h1.trans ((val_main_v61_eq (launchContents m c)).trans (gbox_fun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))))
  · exact h2.trans ((val_main_v41_eq (launchContents m c)).trans (gfm_fun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))))
  · exact h3.trans ((val_main_v40_eq (launchContents m c)).trans (nfm_fun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))))
  · exact h4.trans ((val_main_v65_eq (launchContents m c)).trans (go_fun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))))
  · exact h5.trans ((val_main_v68_eq (launchContents m c)).trans (nom_fun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))))

end Cert.ReferenceIdeal.Score

end
-- ==== Proof.Finite.lean ====
/-
  FINITE ARGUMENTS GIVE FINITE SCORES. Over a batch of real numbers whose question mask is not negative, every score is
  a real number; so no score is minus infinity.
-/
module

public import proofs.«01_k».proof.Proof.Spec
public import proofs.«01_k».proof.Proof.Consts

@[expose] public section

noncomputable section

namespace Cert.Spec

open Idealize.ShloMosaic

/-- A real number. -/
def IsRe (x : EReal) : Prop := ∃ r : ℝ, x = (r : EReal)

namespace IsRe

variable {x y : EReal}

theorem add (hx : IsRe x) (hy : IsRe y) : IsRe (x + y) := by
  obtain ⟨a, rfl⟩ := hx; obtain ⟨b, rfl⟩ := hy; exact ⟨a + b, (EReal.coe_add a b).symm⟩

theorem sub (hx : IsRe x) (hy : IsRe y) : IsRe (x - y) := by
  obtain ⟨a, rfl⟩ := hx; obtain ⟨b, rfl⟩ := hy; exact ⟨a - b, (EReal.coe_sub a b).symm⟩

theorem mul (hx : IsRe x) (hy : IsRe y) : IsRe (x * y) := by
  obtain ⟨a, rfl⟩ := hx; obtain ⟨b, rfl⟩ := hy; exact ⟨a * b, (EReal.coe_mul a b).symm⟩

theorem sum {n : Nat} {f : Fin n → EReal} (h : ∀ k, IsRe (f k)) : IsRe (∑ k, f k) :=
  Finset.sum_induction f IsRe (fun _ _ => add) ⟨0, rfl⟩ fun k _ => h k

/-- A quotient by a positive number. -/
theorem div (hx : IsRe x) (hy : IsRe y) (h : 0 < y) : IsRe (Ideal.div x y) := by
  obtain ⟨b, rfl⟩ := hy
  rw [Ideal.div_coe (by rintro rfl; exact lt_irrefl _ h)]
  exact mul hx ⟨_, rfl⟩

/-- The greatest of some reals. -/
theorem max {n : Nat} [NeZero n] {f : Fin n → EReal} (h : ∀ k, IsRe (f k)) : IsRe (Finset.univ.fold Max.max ⊥ f) := by
  obtain ⟨p, hp⟩ := Finite.exists_max f
  have : Finset.univ.fold Max.max ⊥ f = f p := le_antisymm
    ((Finset.fold_max_le _).mpr ⟨bot_le, fun j _ => hp j⟩) ((Finset.le_fold_max _).mpr (Or.inr ⟨p, Finset.mem_univ p, le_rfl⟩))
  rw [this]; exact h p

theorem exp (hx : IsRe x) : IsRe (Ideal.exp x) ∧ 0 < Ideal.exp x := by
  obtain ⟨a, rfl⟩ := hx
  exact ⟨⟨Real.exp a, rfl⟩, EReal.coe_pos.mpr (Real.exp_pos a)⟩

theorem bot_lt (hx : IsRe x) : ⊥ < x := by
  obtain ⟨a, rfl⟩ := hx; exact EReal.bot_lt_coe a

end IsRe

/-- A quotient of two numbers, the first not negative and the second positive, is not negative. -/
theorem div_nonneg' {x y : EReal} (hx : 0 ≤ x) (hy : IsRe y) (h : 0 < y) : 0 ≤ Ideal.div x y := by
  obtain ⟨b, rfl⟩ := hy
  have hb : 0 < b := EReal.coe_pos.mp h
  rw [Ideal.div_coe hb.ne']
  exact mul_nonneg hx (EReal.coe_nonneg.mpr (one_div_pos.mpr hb).le)

namespace Batch

/-- The batch's arrays that the scores read are of real numbers, and the question mask is not negative. -/
structure Fine (X : Batch) : Prop where
  q : ∀ l k, IsRe (X.q l k)
  qm : ∀ l, IsRe (X.qm l)
  ff : ∀ n d, IsRe (X.ff n d)
  of : ∀ j d, IsRe (X.of j d)
  Wq : ∀ k d, IsRe (X.Wq k d)
  bq : ∀ d, IsRe (X.bq d)
  w : ∀ d, IsRe (X.w d)
  b : IsRe X.b
  Wt : ∀ k d, IsRe (X.Wt k d)
  Ws : ∀ k d, IsRe (X.Ws k d)
  pos : ∀ l, 0 ≤ X.qm l

variable {X : Batch} (h : X.Fine)

include h

theorem Fine.proj (l : Fin 32) (d : Fin 1024) : IsRe (X.proj l d) :=
  (IsRe.sum fun k => (h.q l k).mul (h.Wq k d)).add (h.bq d)

theorem Fine.logit (l : Fin 32) : IsRe (X.logit l) :=
  (IsRe.sum fun d => (h.proj l d).mul (h.w d)).add h.b

theorem Fine.ex (l : Fin 32) : IsRe (X.ex l) ∧ 0 < X.ex l := ((h.logit l).sub (IsRe.max h.logit)).exp

theorem Fine.sum_ex : 0 < ∑ k, X.ex k :=
  lt_of_lt_of_le (h.ex 0).2 (Finset.single_le_sum (f := X.ex) (fun k _ => (h.ex k).2.le) (Finset.mem_univ 0))

theorem Fine.soft (l : Fin 32) : IsRe (X.soft l) :=
  (((h.ex l).1.div (IsRe.sum fun k => (h.ex k).1) h.sum_ex)).mul (h.qm l)

theorem Fine.soft_nonneg (l : Fin 32) : 0 ≤ X.soft l :=
  mul_nonneg (div_nonneg' (h.ex l).2.le (IsRe.sum fun k => (h.ex k).1) h.sum_ex) (h.pos l)

theorem Fine.att (l : Fin 32) : IsRe (X.att l) := by
  obtain ⟨t, ht, e⟩ := Consts.tiny
  have h0 : 0 ≤ ∑ k, X.soft k := Finset.sum_nonneg fun k _ => h.soft_nonneg k
  refine (h.soft l).div ((IsRe.sum h.soft).add ⟨t, e⟩) ?_
  rw [e]
  exact lt_of_lt_of_le (EReal.coe_pos.mpr ht) (le_add_of_nonneg_left h0)

theorem Fine.gq (d : Fin 1024) : IsRe (X.gq d) := IsRe.sum fun l => (h.att l).mul (h.proj l d)

theorem Fine.score {W : Fin 1024 → Fin 1024 → EReal} {f : Fin 1024 → EReal} (hW : ∀ k d, IsRe (W k d)) (hf : ∀ d, IsRe (f d)) :
    IsRe (X.score W f) :=
  (IsRe.sum fun d => (IsRe.sum fun k => (h.gq k).mul (hW k d)).mul (hf d)).mul ⟨_, Consts.c32inv⟩

/-- No frame score is minus infinity. -/
theorem Fine.fsc (n : Fin 64) : ⊥ < X.fsc n := by
  unfold Batch.fsc
  split
  · exact (h.score h.Wt (h.ff n)).bot_lt
  · exact IsRe.bot_lt Consts.negBig

/-- No OCR score is minus infinity. -/
theorem Fine.osc (j : Fin 2048) : ⊥ < X.osc j := by
  unfold Batch.osc
  split
  · exact (h.score h.Ws (h.of j)).bot_lt
  · exact IsRe.bot_lt Consts.negBig

end Batch

end Cert.Spec

end
-- ==== Proof.Pre.lean ====
/-
  THE PRECONDITION, OPENED: the kernel's arguments are real numbers and the question mask is not negative.
-/
module

public import proofs.«01_k».proof.Proof.KValue
public import proofs.«01_k».proof.Proof.Finite
public import proofs.«01_k».proof.Defs

@[expose] public section

set_option maxRecDepth 16384

noncomputable section

open Idealize.ShloMosaic Idealize.ShloMosaic.TcCoe

namespace Cert.KernelIdeal.Value

open Cert.KernelIdeal Cert.KernelIdeal.Gen Cert.Spec

/-- An element whose magnitude is below infinity is a real number. -/
theorem re_of_lt {x : EReal} (h : Ideal.cmp .olt (max x (-x)) (Ideal.ofBits .f32 0x7F800000#32) = 1#1) : IsRe x := by
  rw [Consts.posInf] at h
  have h' : max x (-x) < ⊤ := by
    by_contra e
    simp [Ideal.cmp, e] at h
  induction x with
  | bot => simp at h'
  | top => simp at h'
  | coe r => exact ⟨r, rfl⟩

variable [Cert.Pre_finite_scores.Facts]

/-- Under the precondition every batch is made of real numbers, with a question mask that is not negative. -/
theorem fine (m : (ℓ : Loc nD τ sig) → Buf (Elt Ideal) ℓ) (h : Cert.Pre_KernelIdeal_finite_scores m) (c : Dev nD) (b : Fin 32) :
    (arg m c b).Fine := by
  obtain ⟨h0, h1, h2, h4, h8, h9, h10, h11, h12, h13, hp⟩ := h c
  refine ⟨fun l k => re_of_lt (congrFun h0 (ix3 b l k)), fun l => re_of_lt (congrFun h1 (ix2 b l)),
    fun n d => re_of_lt (congrFun h2 (ix3 b n d)), fun j d => re_of_lt (congrFun h4 (ix3 b j d)),
    fun k d => re_of_lt (congrFun h8 (ix2 k d)), fun d => re_of_lt (congrFun h9 (ix1 d)), fun d => re_of_lt (congrFun h10 (ix1 d)),
    re_of_lt (congrFun h11 ix0), fun k d => re_of_lt (congrFun h12 (ix2 k d)), fun k d => re_of_lt (congrFun h13 (ix2 k d)), fun l => ?_⟩
  have := congrFun hp (ix2 b l)
  change Ideal.cmp .oge _ (Ideal.ofBits .f32 0x00000000#32) = 1#1 at this
  rw [Ideal.ofBits_zero_f32] at this
  by_contra e
  have e' : ¬ (0 : EReal) ≤ m ((c : Thread nD τ).loc main_arg1) (ix2 b l) := e
  simp [Ideal.cmp, e'] at this

end Cert.KernelIdeal.Value

end
-- ==== Proof.lean ====
/-
  The claim: the frames of the kernel, of the idealized kernel and of the reference, the preservation of the kernel by
  idealization, and the equality of the idealized kernel's six results with the reference's.
-/
module

public import proofs.«01_k».proof.Defs
public import proofs.«01_k».proof.Proof.Frames
public import proofs.«01_k».proof.Proof.KRun
public import proofs.«01_k».proof.Proof.RRun
public import proofs.«01_k».proof.Proof.Pre
public import proofs.«01_k».proof.Proof.Gen.Pre_finite_scores
public import Idealize.ShloMosaic.Adequacy
public import Idealize.ShloMosaic.Init

@[expose] public section

noncomputable section

namespace Cert.Proof

open Idealize.ShloMosaic Idealize.ShloMosaic.TcCoe Idealize.SL.Sem

/-- Over arguments that agree, the two programs' batches are the same. -/
theorem arg_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (b : Fin 32) : Cert.ReferenceIdeal.Score.arg m' c b = Cert.KernelIdeal.Value.arg m c b := by
  obtain ⟨h0, h1, h2, h3, h4, h5, h6, h7, h8, h9, h10, h11, h12, h13⟩ := h
  unfold Cert.ReferenceIdeal.Score.arg Cert.KernelIdeal.Value.arg
  rw [h0, h1, h2, h3, h4, h5, h6, h7, h8, h9, h10, h11, h12, h13]

/-- The idealized kernel's six results are the reference's. -/
theorem algebraic : Cert.algebraic_KernelIdeal_ReferenceIdeal_pre_finite_scores := by
  pair_intro
  · exact Cert.KernelIdeal.Value.run m g (fun c b n => (Cert.KernelIdeal.Value.fine m hpre c b).fsc n)
      (fun c b j => (Cert.KernelIdeal.Value.fine m hpre c b).osc j)
  · refine (θ_run Cert.ReferenceIdeal.defs _ _).mono (fun r h c => ?_) (Cert.ReferenceIdeal.Score.run m' g')
    have e : Cert.ReferenceIdeal.Score.arg m' c = Cert.KernelIdeal.Value.arg m c := funext fun b => arg_eq m m' c (hagree c) b
    obtain ⟨h0, h1, h2, h3, h4, h5, hargs⟩ := h c
    refine ⟨?_, ?_, ?_, ?_, ?_, ?_, hargs⟩
    · exact h0.trans (congrArg (fun (x : Fin 32 → Cert.Spec.Batch) (i : Cert.ReferenceIdeal.S32x8.Idx) => (x (i 0)).gf (i 1)) e)
    · exact h1.trans (congrArg (fun (x : Fin 32 → Cert.Spec.Batch) (i : Cert.ReferenceIdeal.S32x32x4.Idx) => (x (i 0)).gbox (i 1) (i 2)) e)
    · exact h2.trans (congrArg (fun (x : Fin 32 → Cert.Spec.Batch) (i : Cert.ReferenceIdeal.S32x64.Idx) => (x (i 0)).gfm (i 1)) e)
    · exact h3.trans (congrArg (fun (x : Fin 32 → Cert.Spec.Batch) (i : Cert.ReferenceIdeal.S32x64.Idx) => (x (i 0)).nfm (i 1)) e)
    · exact h4.trans (congrArg (fun (x : Fin 32 → Cert.Spec.Batch) (i : Cert.ReferenceIdeal.S32x2048.Idx) => (x (i 0)).go (i 1)) e)
    · exact h5.trans (congrArg (fun (x : Fin 32 → Cert.Spec.Batch) (i : Cert.ReferenceIdeal.S32x2048.Idx) => (x (i 0)).nom (i 1)) e)

/-- Everything claimed. -/
theorem claim : Cert.Claim := ⟨Cert.Kernel.Gen.facts, Cert.KernelIdeal.Gen.facts, Cert.ReferenceIdeal.Gen.facts,
  Cert.Pre_finite_scores.Gen.facts, frame_kernel, frame_kernelIdeal, fun m ρ _ => frame_kernelIdeal m ρ trivial,
  frame_referenceIdeal, fun m ρ _ => frame_referenceIdeal m ρ trivial, trivial, algebraic⟩

end Cert.Proof

end
